-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_row_maxima [hPre_normal_row_maxima : Cert.Pre_normal_row_maxima.Facts] (m : (ℓ : Loc Cert.KernelIdeal.nD Cert.KernelIdeal.τ Cert.KernelIdeal.sig) → Buf (Elt Ideal) ℓ) : Prop :=
  ∀ c : Dev Cert.KernelIdeal.nD,
    (Cert.Pre_normal_row_maxima.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_row_maxima [hPre_normal_row_maxima : Cert.Pre_normal_row_maxima.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_row_maxima.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal_row_maxima [hKernelIdeal : Cert.KernelIdeal.Facts] [hPre_normal_row_maxima : Cert.Pre_normal_row_maxima.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_row_maxima m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal_row_maxima [hReferenceIdeal : Cert.ReferenceIdeal.Facts] [hPre_normal_row_maxima : Cert.Pre_normal_row_maxima.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_row_maxima m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_normal_row_maxima [hKernelIdeal : Cert.KernelIdeal.Facts] [hReferenceIdeal : Cert.ReferenceIdeal.Facts] [hPre_normal_row_maxima : Cert.Pre_normal_row_maxima.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_row_maxima m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normal_row_maxima : Cert.Pre_normal_row_maxima.Facts),
    quiescent_Kernel (hKernel := hKernel)
    ∧ quiescent_KernelIdeal (hKernelIdeal := hKernelIdeal)
    ∧ quiescent_KernelIdeal_pre_normal_row_maxima (hKernelIdeal := hKernelIdeal) (hPre_normal_row_maxima := hPre_normal_row_maxima)
    ∧ quiescent_ReferenceIdeal (hReferenceIdeal := hReferenceIdeal)
    ∧ quiescent_ReferenceIdeal_pre_normal_row_maxima (hReferenceIdeal := hReferenceIdeal) (hPre_normal_row_maxima := hPre_normal_row_maxima)
    ∧ preserves_Kernel_KernelIdeal
    ∧ algebraic_KernelIdeal_ReferenceIdeal_pre_normal_row_maxima (hKernelIdeal := hKernelIdeal) (hReferenceIdeal := hReferenceIdeal) (hPre_normal_row_maxima := hPre_normal_row_maxima)
-- ==== Pre_normal_row_maxima.lean ====
abbrev S2x1536x1280 : Shape := ⟨3, ![2, 1536, 1280]⟩
abbrev S5120x1280 : Shape := ⟨2, ![5120, 1280]⟩
abbrev S2x1536x5120 : Shape := ⟨3, ![2, 1536, 5120]⟩
abbrev S_ : Shape := ⟨0, ![]⟩
abbrev S5120 : Shape := ⟨1, ![5120]⟩

class Facts : Prop where
  reducesTo_S5120x1280_S5120_d1 : S5120x1280.ReducesTo [1] S5120
  h_S_ : 0 < S_.numel
  bcast_S_S5120 : S_.BroadcastsInDim S5120 (![] : Fin 0 → Fin S5120.rank)

variable [Facts]

def fn {F : FTy → Type} [FloatOps F] (main_arg0 : FVec F S2x1536x1280 .bf16) (main_arg1 : FVec F S5120x1280 .f32) (main_arg2 : FVec F S2x1536x5120 .bf16) : IVec S5120 1 :=
  let main_v0 : FVec F S5120x1280 .f32 := Host.absf main_arg1
  let main_cst : FVec F S_ .f32 := constant S_ .f32 0xFF800000#32
  let main_v1 : FVec F S5120 .f32 := (fun x v => Host.reduce FloatOps.maximumf x v reducesTo_S5120x1280_S5120_d1 h_S_) main_v0 main_cst
  let main_cst_0 : FVec F S_ .f32 := constant S_ .f32 0x00000000#32
  let main_v2 : FVec F S5120 .f32 := broadcastInDim S5120 ![] bcast_S_S5120 main_cst_0
  let main_v3 : IVec S5120 1 := cmpf .oeq main_v1 main_v2
  let main_cst_1 : FVec F S_ .f32 := constant S_ .f32 0x3B124925#32
  let main_v4 : FVec F S5120 .f32 := broadcastInDim S5120 ![] bcast_S_S5120 main_cst_1
  let main_v5 : FVec F S5120 .f32 := mulf main_v1 main_v4
  let main_cst_2 : FVec F S_ .f32 := constant S_ .f32 0x00800000#32
  let main_v6 : FVec F S5120 .f32 := broadcastInDim S5120 ![] bcast_S_S5120 main_cst_2
  let main_v7 : IVec S5120 1 := cmpf .oge main_v5 main_v6
  let main_cst_3 : FVec F S_ .f32 := constant S_ .f32 0x7F7FFFFF#32
  let main_v8 : FVec F S5120 .f32 := broadcastInDim S5120 ![] bcast_S_S5120 main_cst_3
  let main_v9 : IVec S5120 1 := cmpf .ole main_v1 main_v8
  let main_v10 : IVec S5120 1 := andi main_v7 main_v9
  let main_v11 : IVec S5120 1 := ori main_v3 main_v10
  main_v11
-- ==== Kernel.lean ====
abbrev S2x1536x1280 : Shape := ⟨3, ![2, 1536, 1280]⟩
abbrev S5120x1280 : Shape := ⟨2, ![5120, 1280]⟩
abbrev S2x1536x5120 : Shape := ⟨3, ![2, 1536, 5120]⟩
abbrev S3072x1280 : Shape := ⟨2, ![3072, 1280]⟩
abbrev S3072x5120 : Shape := ⟨2, ![3072, 5120]⟩
abbrev S40x128 : Shape := ⟨2, ![40, 128]⟩
abbrev S256x1280 : Shape := ⟨2, ![256, 1280]⟩
abbrev S3072x256 : Shape := ⟨2, ![3072, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128x128 : Shape := ⟨2, ![128, 128]⟩
abbrev S128x1 : Shape := ⟨2, ![128, 1]⟩
abbrev S128 : Shape := ⟨1, ![128]⟩
abbrev S1x128 : Shape := ⟨2, ![1, 128]⟩

abbrev nBuf : Space → Nat
  | .hbm => 10
  | .vmem => 14
  | .smem => 0
  | _ => 0

abbrev bufTy : (tb : Table) → Fin (tcTables nBuf tb) → BufTy
  | .hbm, ⟨0, _⟩ => ⟨S2x1536x1280, .bf16⟩
  | .hbm, ⟨1, _⟩ => ⟨S5120x1280, .f32⟩
  | .hbm, ⟨2, _⟩ => ⟨S2x1536x5120, .bf16⟩
  | .hbm, ⟨3, _⟩ => ⟨S3072x1280, .bf16⟩
  | .hbm, ⟨4, _⟩ => ⟨S3072x5120, .bf16⟩
  | .hbm, ⟨5, _⟩ => ⟨S3072x5120, .bf16⟩
  | .hbm, ⟨6, _⟩ => ⟨S3072x1280, .bf16⟩
  | .hbm, ⟨7, _⟩ => ⟨S5120x1280, .f32⟩
  | .hbm, ⟨8, _⟩ => ⟨S5120x1280, .fp8e4m3⟩
  | .hbm, ⟨9, _⟩ => ⟨S40x128, .f32⟩
  | .local _ .vmem, ⟨0, _⟩ => ⟨S3072x1280, .bf16⟩
  | .local _ .vmem, ⟨1, _⟩ => ⟨S256x1280, .f32⟩
  | .local _ .vmem, ⟨2, _⟩ => ⟨S256x1280, .f32⟩
  | .local _ .vmem, ⟨3, _⟩ => ⟨S3072x256, .bf16⟩
  | .local _ .vmem, ⟨4, _⟩ => ⟨S3072x256, .bf16⟩
  | .local _ .vmem, ⟨5, _⟩ => ⟨S3072x256, .bf16⟩
  | .local _ .vmem, ⟨6, _⟩ => ⟨S3072x256, .bf16⟩
  | .local _ .vmem, ⟨7, _⟩ => ⟨S3072x1280, .bf16⟩
  | .local _ .vmem, ⟨8, _⟩ => ⟨S256x1280, .f32⟩
  | .local _ .vmem, ⟨9, _⟩ => ⟨S256x1280, .f32⟩
  | .local _ .vmem, ⟨10, _⟩ => ⟨S256x1280, .fp8e4m3⟩
  | .local _ .vmem, ⟨11, _⟩ => ⟨S256x1280, .fp8e4m3⟩
  | .local _ .vmem, ⟨12, _⟩ => ⟨S40x128, .f32⟩
  | .local _ .vmem, ⟨13, _⟩ => ⟨S3072x1280, .f32⟩
  | _, _ => ⟨S2x1536x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![20], ![false]⟩

def k0_off1 (i : grid0.Coords) (c0_i32_13 : BitVec 32) : Fin 2 → Nat :=
  let arg0 : BitVec 32 := BitVec.ofNat 32 (i 0).val
  let c2_i32 : BitVec 32 := 2#32
  let v55 : BitVec 32 := Scalar.muli arg0 c2_i32
  let v56 : BitVec 32 := Scalar.addi v55 c0_i32_13
  let v57 : Index := Scalar.indexCast v56
  let c0_14 : Index := 0#32
  ![v57.toNat, 0]
def k0_cond2 (i : grid0.Coords) : BitVec 1 :=
  let arg0 : BitVec 32 := BitVec.ofNat 32 (i 0).val
  let c19_i32 : BitVec 32 := 19#32
  let v92 : BitVec 1 := Scalar.cmpi .eq arg0 c19_i32
  let v93 : BitVec 32 := Scalar.extui v92
  let c0_i32_37 : BitVec 32 := 0#32
  let v94 : BitVec 1 := Scalar.cmpi .ne v93 c0_i32_37
  v94

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3072x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S40x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x1536x1280 : Shape := ⟨3, ![2, 1536, 1280]⟩
abbrev S5120x1280 : Shape := ⟨2, ![5120, 1280]⟩
abbrev S2x1536x5120 : Shape := ⟨3, ![2, 1536, 5120]⟩
abbrev S3072x1280 : Shape := ⟨2, ![3072, 1280]⟩
abbrev S3072x5120 : Shape := ⟨2, ![3072, 5120]⟩
abbrev S40x128 : Shape := ⟨2, ![40, 128]⟩
abbrev S5120 : Shape := ⟨1, ![5120]⟩
abbrev S5120x1 : Shape := ⟨2, ![5120, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x1536x1280, .bf16⟩
  | .hbm, ⟨1, _⟩ => ⟨S5120x1280, .f32⟩
  | .hbm, ⟨2, _⟩ => ⟨S2x1536x5120, .bf16⟩
  | .hbm, ⟨3, _⟩ => ⟨S3072x1280, .bf16⟩
  | .hbm, ⟨4, _⟩ => ⟨S3072x5120, .bf16⟩
  | .hbm, ⟨5, _⟩ => ⟨S3072x5120, .bf16⟩
  | .hbm, ⟨6, _⟩ => ⟨S3072x1280, .bf16⟩
  | .hbm, ⟨7, _⟩ => ⟨S5120x1280, .f32⟩
  | .hbm, ⟨8, _⟩ => ⟨S5120x1280, .fp8e4m3⟩
  | .hbm, ⟨9, _⟩ => ⟨S40x128, .f32⟩
  | .local _ .vmem, ⟨0, _⟩ => ⟨S3072x1280, .bf16⟩
  | .local _ .vmem, ⟨1, _⟩ => ⟨S5120x1280, .f32⟩
  | .local _ .vmem, ⟨2, _⟩ => ⟨S3072x5120, .bf16⟩
  | .local _ .vmem, ⟨3, _⟩ => ⟨S3072x5120, .bf16⟩
  | .local _ .vmem, ⟨4, _⟩ => ⟨S3072x1280, .bf16⟩
  | .local _ .vmem, ⟨5, _⟩ => ⟨S5120x1280, .f32⟩
  | .local _ .vmem, ⟨6, _⟩ => ⟨S5120x1280, .fp8e4m3⟩
  | .local _ .vmem, ⟨7, _⟩ => ⟨S40x128, .f32⟩
  | _, _ => ⟨S2x1536x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3072x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x1280 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
/-
  What one grid point of the kernel computes, by name: the block of codes, the block of rescaled weights, the three
  products, the row of scales; and the branch conditions of its body in closed form over the grid.
-/
module

public import proofs.«01_k».proof.Proof.Gen.KernelIdeal.Skeleton
public import proofs.«01_k».proof.Proof.Gen.KernelIdeal.Frame
public import Idealize.ShloMosaic.Lib.ValueIdx
public import Idealize.ShloMosaic.Lib.WritesUnit
public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Idealize.SL Idealize.SL.Sem
open Idealize.ShloMosaic.ValueIdx
open Cert.KernelIdeal Cert.KernelIdeal.Gen

variable {F : FTy → Type} [FloatOps F]

/-! ## What a point computes -/

/-- The codes of a block of weight rows. -/
def codesOf (w : Vec F S256x1280 .f32) : FVec F S256x1280 .fp8e4m3 := k0_pay10 (k0_pay8 w) k0_pay9
/-- The rescaled codes of a block of weight rows: code times scale. -/
def wqOf (w : Vec F S256x1280 .f32) : FVec F S256x1280 .bf16 := k0_pay14 (k0_pay7 w) (k0_pay8 w) k0_pay9
/-- The block of `y`: all rows of `x` against the block's rescaled rows. -/
def yOf (x : Vec F S3072x1280 .bf16) (w : Vec F S256x1280 .f32) : FVec F S3072x256 .bf16 := k0_pay2 (wqOf w) (k0_pay16 x)
/-- The block of `dw`: the block's columns of `g` against `x`. -/
def dwOf (x : Vec F S3072x1280 .bf16) (g : Vec F S3072x256 .bf16) : FVec F S256x1280 .f32 := k0_pay3 (k0_pay16 x) g
/-- The accumulator after a point that found it at `s`. -/
def accOf (w : Vec F S256x1280 .f32) (g : Vec F S3072x256 .bf16) (s : Vec F S3072x1280 .f32) : FVec F S3072x1280 .f32 :=
  k0_pay4 (wqOf w) g s
/-- The accumulator as the first point clears it. -/
def acc0 : FVec F S3072x1280 .f32 := k0_pay15
/-- The first row of scales that a point stores: those of the block's first 128 weight rows. -/
def scale0 (w : Vec F S256x1280 .f32) : FVec F S1x128 .f32 := k0_pay12 (k0_pay7 w)
/-- The second row of scales that a point stores: those of the block's last 128 weight rows. -/
def scale1 (w : Vec F S256x1280 .f32) : FVec F S1x128 .f32 := k0_pay13 (k0_pay7 w)
/-- The array of scales `X` with rows `2n` and `2n + 1` replaced. -/
def putRows (n : ℕ) (r0 r1 : Vec F S1x128 .f32) (X : Vec F S40x128 .f32) : Vec F S40x128 .f32 := fun y =>
  if (y 0).val = 2 * n then r0 (ix2 0 (y 1)) else if (y 0).val = 2 * n + 1 then r1 (ix2 0 (y 1)) else X y

/-! ## Reading back what was stored -/

theorem hz : (![0, 0] : Fin 2 → Nat) = fun _ => 0 := funext fun a => by fin_cases a <;> rfl

/-- A buffer last stored whole reads what was stored. -/
theorem read_stored {S : Shape} {e : EltTy} {sp : Space} {sig : RefSig} {κ : Kind} {Val : EltTy → Type} (v : View sig κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- The buffer of scales after a point's two row stores. -/
theorem read_rows {sp : Space} {sig : RefSig} {κ : Kind} (v : View sig κ sp S40x128 .f32) (f : v.ty.Contents (Elt F))
    (i : grid0.Coords) (h0 : ∀ a, k0_off1 i 0#32 a + S1x128.size a ≤ S40x128.size a)
    (h1 : ∀ a, k0_off1 i 1#32 a + S1x128.size a ≤ S40x128.size a) (r0 r1 : Vec F S1x128 .f32) :
    v.read (Elt F) (v.writes (Elt F) f [⟨Rect.unit (s := S40x128) (k0_off1 i 1#32) S1x128.size h1, r1⟩,
      ⟨Rect.unit (s := S40x128) (k0_off1 i 0#32) S1x128.size h0, r0⟩])
      = putRows (i 0).val r0 r1 (v.read (Elt F) f) := by
  have e0 : k0_off1 i 0#32 = ![2 * (i 0).val, 0] := k0_off1_eq i 0
  have e1 : k0_off1 i 1#32 = ![2 * (i 0).val + 1, 0] := k0_off1_eq i 1
  funext y
  rw [View.read_writes_cons_rows (W := 1) v f h1 r1 _ y e1 rfl rfl, View.read_writes_cons_rows (W := 1) v f h0 r0 _ y e0 rfl rfl]
  unfold putRows
  by_cases c0 : (y 0).val = 2 * (i 0).val
  · rw [dif_neg (by omega), dif_pos (by omega), if_pos c0]
    congr 1; funext a
    match a with
    | ⟨0, _⟩ => exact Fin.ext (by rw [Rect.unitLocal_val]; show (y 0).val - 2 * (i 0).val = 0; omega)
    | ⟨1, _⟩ => exact Fin.ext (by rw [Rect.unitLocal_val]; show (y 1).val - 0 = (y 1).val; omega)
  · by_cases c1 : (y 0).val = 2 * (i 0).val + 1
    · rw [dif_pos (by omega), if_neg c0, if_pos c1]
      congr 1; funext a
      match a with
      | ⟨0, _⟩ => exact Fin.ext (by rw [Rect.unitLocal_val]; show (y 0).val - (2 * (i 0).val + 1) = 0; omega)
      | ⟨1, _⟩ => exact Fin.ext (by rw [Rect.unitLocal_val]; show (y 1).val - 0 = (y 1).val; omega)
    · rw [dif_neg (by omega), dif_neg (by omega), if_neg c0, if_neg c1]
      rfl

/-! ## The body's branch conditions -/

/-- The condition under which a point clears the accumulator. -/
abbrev first (i : grid0.Coords) : Prop := (Scalar.cmpi .ne (Scalar.extui (Scalar.cmpi .eq (BitVec.ofNat 32 (i 0).val) 0#32)) 0#32) = 1#1
/-- It holds at the first point only. -/
theorem first_iff : ∀ t : Fin cfg0.N, first (grid0.coords t) ↔ t.val = 0 := by decide +kernel
/-- The condition under which a point stores `dx`. -/
abbrev last (i : grid0.Coords) : Prop := k0_cond2 i = 1#1
/-- It holds at the last point only. -/
theorem last_iff : ∀ t : Fin cfg0.N, last (grid0.coords t) ↔ t.val = 19 := by decide +kernel

/-- Before the last point the window of `dx` is idle: nothing is stored into it … -/
theorem idle_dx : ∀ t : Fin cfg0.N, ¬last (grid0.coords t) → cfg0.idle 4 (grid0.coords t) = true := by decide +kernel
/-- … and it is not written back. -/
theorem noFlush_dx : ∀ t : Fin cfg0.N, ¬last (grid0.coords t) → (cfg0.win 4).flush t = false := by decide +kernel
/-- At the last point it is stored into. -/
theorem live_dx : ∀ t : Fin cfg0.N, last (grid0.coords t) → cfg0.idle 4 (grid0.coords t) = false := by decide +kernel
/-- A point's grid coordinate is its number. -/
theorem coord_val : ∀ t : Fin cfg0.N, (grid0.coords t 0).val = t.val := by decide +kernel

end Cert.KernelIdeal.Run

end
-- ==== Proof.Run.lean ====
/-
  The kernel's body run once — at the first grid point, at one in between, at the last: on whole staging buffers holding
  the inputs' blocks it ends with each output's buffer at its named contents (Body.lean).
-/
module

public import proofs.«01_k».proof.Proof.Body
public import Idealize.ShloMosaic.Lib.Tactic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S3072x1280 .bf16) (harg1 : arg1.IsWhole) (arg2 : Memref sig .tc .vmem S256x1280 .f32) (harg2 : arg2.IsWhole)
  (arg3 : Memref sig .tc .vmem S3072x256 .bf16) (harg3 : arg3.IsWhole) (arg4 : Memref sig .tc .vmem S3072x256 .bf16) (harg4 : arg4.IsWhole)
  (arg5 : Memref sig .tc .vmem S3072x1280 .bf16) (harg5 : arg5.IsWhole) (arg6 : Memref sig .tc .vmem S256x1280 .f32) (harg6 : arg6.IsWhole)
  (arg7 : Memref sig .tc .vmem S256x1280 .fp8e4m3) (harg7 : arg7.IsWhole) (arg8 : Memref sig .tc .vmem S40x128 .f32) (harg8 : arg8.IsWhole)
  (arg9 : Memref sig .tc .vmem S3072x1280 .f32) (harg9 : arg9.IsWhole)
  (x : Vec F S3072x1280 .bf16) (w : Vec F S256x1280 .f32) (g : Vec F S3072x256 .bf16) (s : Vec F S40x128 .f32)

set_option maxHeartbeats 1000000 in
/-- The first point: it clears the accumulator and leaves `dx`'s buffer alone. -/
theorem run_first (h0 : first i) (h1 : ¬last i) (dx : Vec F S3072x1280 .bf16) (E : Set ℕ) (K : PUnit → sProp 𝕄) :
    iprop(owns (c : Thread nD τ) arg1 fullShare x ∗ owns (c : Thread nD τ) arg2 fullShare w ∗ owns (c : Thread nD τ) arg3 fullShare g
        ∗ (∃ d, owns (c : Thread nD τ) arg4 fullShare d) ∗ owns (c : Thread nD τ) arg5 fullShare dx ∗ (∃ d, owns (c : Thread nD τ) arg6 fullShare d)
        ∗ (∃ d, owns (c : Thread nD τ) arg7 fullShare d) ∗ owns (c : Thread nD τ) arg8 fullShare s ∗ (∃ d, owns (c : Thread nD τ) arg9 fullShare d)
        ∗ (iprop(owns (c : Thread nD τ) arg1 fullShare x ∗ owns (c : Thread nD τ) arg2 fullShare w ∗ owns (c : Thread nD τ) arg3 fullShare g
            ∗ owns (c : Thread nD τ) arg4 fullShare (yOf x w) ∗ owns (c : Thread nD τ) arg5 fullShare dx
            ∗ owns (c : Thread nD τ) arg6 fullShare (dwOf x g) ∗ owns (c : Thread nD τ) arg7 fullShare (codesOf w)
            ∗ owns (c : Thread nD τ) arg8 fullShare (putRows (i 0).val (scale0 w) (scale1 w) s)
            ∗ owns (c : Thread nD τ) arg9 fullShare (accOf w g acc0)) -∗ K ⟨⟩))
      ⊢ wp frame (wpE (defs₀ (F := F)) Variants.none c none) E
          (cc0_qat_step i arg1 harg1 arg2 harg2 arg3 harg3 arg4 harg4 arg5 harg5 arg6 harg6 arg7 harg7 arg8 harg8 arg9 harg9) K := by
  simp only [cc0_qat_step_eq_skeleton]; unfold cc0_qat_step_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, ⟨%f7, %hf7, H7⟩, ⟨%ds0, %fs0, -, HS0⟩, Hk⟩
  obtain rfl := harg1.eq_unread hf0; obtain rfl := harg2.eq_unread hf1; obtain rfl := harg3.eq_unread hf2; obtain rfl := harg5.eq_unread hf4
  obtain rfl := harg8.eq_unread hf7
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (read_stored (S := S3072x256) arg4.view _ hz _ _ _).trans ?_
    sl_unfold_words
    simp only [View.readAt_eq_ld, harg1.read_unread, harg2.read_unread, harg3.read_unread, View.ld_unit_zero (S := S3072x1280) hz,
      View.ld_unit_zero (S := S256x1280) hz, View.ld_unit_zero (S := S3072x256) hz]
    rfl
  isplitl [H4]
  · iexists _; isplitr; · ipureintro; exact harg5.read_unread _
    iexact H4
  isplitl [H5]
  · iexists _; isplitr; swap; · iexact H5
    ipureintro
    refine (read_stored (S := S256x1280) arg6.view _ hz _ _ _).trans ?_
    sl_unfold_words
    simp only [View.readAt_eq_ld, harg1.read_unread, harg2.read_unread, harg3.read_unread, View.ld_unit_zero (S := S3072x1280) hz,
      View.ld_unit_zero (S := S256x1280) hz, View.ld_unit_zero (S := S3072x256) hz]
    rfl
  isplitl [H6]
  · iexists _; isplitr; swap; · iexact H6
    ipureintro
    refine (read_stored (S := S256x1280) arg7.view _ hz _ _ _).trans ?_
    sl_unfold_words
    simp only [View.readAt_eq_ld, harg1.read_unread, harg2.read_unread, harg3.read_unread, View.ld_unit_zero (S := S3072x1280) hz,
      View.ld_unit_zero (S := S256x1280) hz, View.ld_unit_zero (S := S3072x256) hz]
    rfl
  isplitl [H7]
  · iexists _; isplitr; swap; · iexact H7
    ipureintro
    refine (read_rows arg8.view _ i _ _ _ _).trans ?_
    sl_unfold_words
    simp only [View.readAt_eq_ld, harg2.read_unread, harg8.read_unread, View.ld_unit_zero (S := S256x1280) hz]
    rfl
  iexists _; isplitr; swap; · iexact HS0
  ipureintro
  refine (read_stored (S := S3072x1280) arg9.view _ hz _ _ _).trans ?_
  sl_unfold_words
  rw [View.readCov_unit_zero (S := S3072x1280) _ hz]
  simp only [View.readAt_eq_ld, harg2.read_unread, harg3.read_unread,
    View.ld_unit_zero (S := S256x1280) hz, View.ld_unit_zero (S := S3072x256) hz]
  rfl

set_option maxHeartbeats 1000000 in
/-- A point in between: it adds to the accumulator and leaves `dx`'s buffer alone. -/
theorem run_middle (h0 : ¬first i) (h1 : ¬last i) (dx : Vec F S3072x1280 .bf16) (a : Vec F S3072x1280 .f32) (E : Set ℕ) (K : PUnit → sProp 𝕄) :
    iprop(owns (c : Thread nD τ) arg1 fullShare x ∗ owns (c : Thread nD τ) arg2 fullShare w ∗ owns (c : Thread nD τ) arg3 fullShare g
        ∗ (∃ d, owns (c : Thread nD τ) arg4 fullShare d) ∗ owns (c : Thread nD τ) arg5 fullShare dx ∗ (∃ d, owns (c : Thread nD τ) arg6 fullShare d)
        ∗ (∃ d, owns (c : Thread nD τ) arg7 fullShare d) ∗ owns (c : Thread nD τ) arg8 fullShare s ∗ owns (c : Thread nD τ) arg9 fullShare a
        ∗ (iprop(owns (c : Thread nD τ) arg1 fullShare x ∗ owns (c : Thread nD τ) arg2 fullShare w ∗ owns (c : Thread nD τ) arg3 fullShare g
            ∗ owns (c : Thread nD τ) arg4 fullShare (yOf x w) ∗ owns (c : Thread nD τ) arg5 fullShare dx
            ∗ owns (c : Thread nD τ) arg6 fullShare (dwOf x g) ∗ owns (c : Thread nD τ) arg7 fullShare (codesOf w)
            ∗ owns (c : Thread nD τ) arg8 fullShare (putRows (i 0).val (scale0 w) (scale1 w) s)
            ∗ owns (c : Thread nD τ) arg9 fullShare (accOf w g a)) -∗ K ⟨⟩))
      ⊢ wp frame (wpE (defs₀ (F := F)) Variants.none c none) E
          (cc0_qat_step i arg1 harg1 arg2 harg2 arg3 harg3 arg4 harg4 arg5 harg5 arg6 harg6 arg7 harg7 arg8 harg8 arg9 harg9) K := by
  simp only [cc0_qat_step_eq_skeleton]; unfold cc0_qat_step_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg5.eq_unread hf4
  obtain rfl := harg8.eq_unread hf7; obtain rfl := harg9.eq_unread hfs0
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (read_stored (S := S3072x256) arg4.view _ hz _ _ _).trans ?_
    sl_unfold_words
    simp only [View.readAt_eq_ld, harg1.read_unread, harg2.read_unread, harg3.read_unread, View.ld_unit_zero (S := S3072x1280) hz,
      View.ld_unit_zero (S := S256x1280) hz, View.ld_unit_zero (S := S3072x256) hz]
    rfl
  isplitl [H4]
  · iexists _; isplitr; · ipureintro; exact harg5.read_unread _
    iexact H4
  isplitl [H5]
  · iexists _; isplitr; swap; · iexact H5
    ipureintro
    refine (read_stored (S := S256x1280) arg6.view _ hz _ _ _).trans ?_
    sl_unfold_words
    simp only [View.readAt_eq_ld, harg1.read_unread, harg2.read_unread, harg3.read_unread, View.ld_unit_zero (S := S3072x1280) hz,
      View.ld_unit_zero (S := S256x1280) hz, View.ld_unit_zero (S := S3072x256) hz]
    rfl
  isplitl [H6]
  · iexists _; isplitr; swap; · iexact H6
    ipureintro
    refine (read_stored (S := S256x1280) arg7.view _ hz _ _ _).trans ?_
    sl_unfold_words
    simp only [View.readAt_eq_ld, harg1.read_unread, harg2.read_unread, harg3.read_unread, View.ld_unit_zero (S := S3072x1280) hz,
      View.ld_unit_zero (S := S256x1280) hz, View.ld_unit_zero (S := S3072x256) hz]
    rfl
  isplitl [H7]
  · iexists _; isplitr; swap; · iexact H7
    ipureintro
    refine (read_rows arg8.view _ i _ _ _ _).trans ?_
    sl_unfold_words
    simp only [View.readAt_eq_ld, harg2.read_unread, harg8.read_unread, View.ld_unit_zero (S := S256x1280) hz]
    rfl
  iexists _; isplitr; swap; · iexact HS0
  ipureintro
  refine (read_stored (S := S3072x1280) arg9.view _ hz _ _ _).trans ?_
  sl_unfold_words
  simp only [View.readAt_eq_ld, harg2.read_unread, harg3.read_unread, harg9.read_unread, View.ld_unit_zero (S := S3072x1280) hz,
    View.ld_unit_zero (S := S256x1280) hz, View.ld_unit_zero (S := S3072x256) hz]
  rfl

set_option maxHeartbeats 1000000 in
/-- The last point: it adds to the accumulator and stores it as `dx`. -/
theorem run_last (h0 : ¬first i) (h1 : last i) (a : Vec F S3072x1280 .f32) (E : Set ℕ) (K : PUnit → sProp 𝕄) :
    iprop(owns (c : Thread nD τ) arg1 fullShare x ∗ owns (c : Thread nD τ) arg2 fullShare w ∗ owns (c : Thread nD τ) arg3 fullShare g
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare s ∗ owns (c : Thread nD τ) arg9 fullShare a
        ∗ (iprop(owns (c : Thread nD τ) arg1 fullShare x ∗ owns (c : Thread nD τ) arg2 fullShare w ∗ owns (c : Thread nD τ) arg3 fullShare g
            ∗ owns (c : Thread nD τ) arg4 fullShare (yOf x w) ∗ owns (c : Thread nD τ) arg5 fullShare (k0_pay5 (accOf w g a))
            ∗ owns (c : Thread nD τ) arg6 fullShare (dwOf x g) ∗ owns (c : Thread nD τ) arg7 fullShare (codesOf w)
            ∗ owns (c : Thread nD τ) arg8 fullShare (putRows (i 0).val (scale0 w) (scale1 w) s)
            ∗ owns (c : Thread nD τ) arg9 fullShare (accOf w g a)) -∗ K ⟨⟩))
      ⊢ wp frame (wpE (defs₀ (F := F)) Variants.none c none) E
          (cc0_qat_step i arg1 harg1 arg2 harg2 arg3 harg3 arg4 harg4 arg5 harg5 arg6 harg6 arg7 harg7 arg8 harg8 arg9 harg9) K := by
  simp only [cc0_qat_step_eq_skeleton]; unfold cc0_qat_step_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%f7, %hf7, H7⟩, ⟨%fs0, %hfs0, HS0⟩, Hk⟩
  obtain rfl := harg1.eq_unread hf0; obtain rfl := harg2.eq_unread hf1; obtain rfl := harg3.eq_unread hf2
  obtain rfl := harg8.eq_unread hf7; obtain rfl := harg9.eq_unread hfs0
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (read_stored (S := S3072x256) arg4.view _ hz _ _ _).trans ?_
    sl_unfold_words
    simp only [View.readAt_eq_ld, harg1.read_unread, harg2.read_unread, harg3.read_unread, View.ld_unit_zero (S := S3072x1280) hz,
      View.ld_unit_zero (S := S256x1280) hz, View.ld_unit_zero (S := S3072x256) hz]
    rfl
  isplitl [H4]
  · iexists _; isplitr; swap; · iexact H4
    ipureintro
    refine (read_stored (S := S3072x1280) arg5.view _ hz _ _ _).trans ?_
    sl_unfold_words
    rw [View.readCov_unit_zero (S := S3072x1280) _ hz]
    simp only [View.readAt_eq_ld, harg2.read_unread, harg3.read_unread, harg9.read_unread, View.ld_unit_zero (S := S3072x1280) hz,
      View.ld_unit_zero (S := S256x1280) hz, View.ld_unit_zero (S := S3072x256) hz]
    rfl
  isplitl [H5]
  · iexists _; isplitr; swap; · iexact H5
    ipureintro
    refine (read_stored (S := S256x1280) arg6.view _ hz _ _ _).trans ?_
    sl_unfold_words
    simp only [View.readAt_eq_ld, harg1.read_unread, harg2.read_unread, harg3.read_unread, View.ld_unit_zero (S := S3072x1280) hz,
      View.ld_unit_zero (S := S256x1280) hz, View.ld_unit_zero (S := S3072x256) hz]
    rfl
  isplitl [H6]
  · iexists _; isplitr; swap; · iexact H6
    ipureintro
    refine (read_stored (S := S256x1280) arg7.view _ hz _ _ _).trans ?_
    sl_unfold_words
    simp only [View.readAt_eq_ld, harg1.read_unread, harg2.read_unread, harg3.read_unread, View.ld_unit_zero (S := S3072x1280) hz,
      View.ld_unit_zero (S := S256x1280) hz, View.ld_unit_zero (S := S3072x256) hz]
    rfl
  isplitl [H7]
  · iexists _; isplitr; swap; · iexact H7
    ipureintro
    refine (read_rows arg8.view _ i _ _ _ _).trans ?_
    sl_unfold_words
    simp only [View.readAt_eq_ld, harg2.read_unread, harg8.read_unread, View.ld_unit_zero (S := S256x1280) hz]
    rfl
  iexists _; isplitr; swap; · iexact HS0
  ipureintro
  refine (read_stored (S := S3072x1280) arg9.view _ hz _ _ _).trans ?_
  sl_unfold_words
  simp only [View.readAt_eq_ld, harg2.read_unread, harg3.read_unread, harg9.read_unread, View.ld_unit_zero (S := S3072x1280) hz,
    View.ld_unit_zero (S := S256x1280) hz, View.ld_unit_zero (S := S3072x256) hz]
  rfl

end Cert.KernelIdeal.Run

end
-- ==== Proof.Data.lean ====
/-
  The kernel's pipeline run: what each staging buffer, the accumulator and the array of scales hold point by point, the
  body's obligation at every point, the run of the whole program, and from it the frame claim.
-/
module

public import proofs.«01_k».proof.Proof.Run
public import Idealize.ShloMosaic.Lib.Pipeline.DatRel

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, point by point -/

/-- The block of `x` at a point. -/
abbrev xb (c : Dev nD) (t : Fin cfg0.N) : Vec F S3072x1280 .bf16 := iblk m c 0 t
/-- The block of weight rows at a point. -/
abbrev wb (c : Dev nD) (t : Fin cfg0.N) : Vec F S256x1280 .f32 := iblk m c 1 t
/-- The block of columns of `g` at a point. -/
abbrev gb (c : Dev nD) (t : Fin cfg0.N) : Vec F S3072x256 .bf16 := iblk m c 2 t

/-- The accumulator after point `n`. -/
def accN (c : Dev nD) : (n : ℕ) → n < cfg0.N → Vec F S3072x1280 .f32
  | 0, h => accOf (wb m c ⟨0, h⟩) (gb m c ⟨0, h⟩) acc0
  | n + 1, h => accOf (wb m c ⟨n + 1, h⟩) (gb m c ⟨n + 1, h⟩) (accN c n (Nat.lt_of_succ_lt h))

theorem accN_zero (c : Dev nD) (t : Fin cfg0.N) (h : t.val = 0) : accN m c t.val t.isLt = accOf (wb m c t) (gb m c t) acc0 := by
  obtain ⟨n, hn⟩ := t
  cases n with
  | zero => rfl
  | succ n => exact absurd h (Nat.succ_ne_zero _)

theorem accN_pos (c : Dev nD) (t : Fin cfg0.N) (h : t.val ≠ 0) :
    accN m c t.val t.isLt = accOf (wb m c t) (gb m c t) (accN m c (t.val - 1) (Nat.lt_of_le_of_lt (Nat.sub_le _ _) t.isLt)) := by
  obtain ⟨n, hn⟩ := t
  cases n with
  | zero => exact absurd rfl h
  | succ n => rfl

/-- The point that stores row `r` of the array of scales. -/
def rowPoint (r : Fin 40) : Fin cfg0.N := ⟨r.val / 2, by rw [show cfg0.N = 20 from N_0]; omega⟩

/-- The array of scales, row by row: two rows per point. -/
def scales (c : Dev nD) : Vec F S40x128 .f32 := fun y =>
  if (y 0).val % 2 = 0 then scale0 (wb m c (rowPoint (y 0))) (ix2 0 (y 1)) else scale1 (wb m c (rowPoint (y 0))) (ix2 0 (y 1))

/-- Storing a point's two rows over an array right in the rows before it makes it right in these two as well. -/
theorem putRows_scales (c : Dev nD) (t : Fin cfg0.N) (X : Vec F S40x128 .f32) (hX : ∀ y : S40x128.Idx, (y 0).val < 2 * t.val → X y = scales m c y)
    (y : S40x128.Idx) (hy : (y 0).val < 2 * (t.val + 1)) : putRows t.val (scale0 (wb m c t)) (scale1 (wb m c t)) X y = scales m c y := by
  unfold putRows scales
  by_cases h0 : (y 0).val = 2 * t.val
  · have e : rowPoint (y 0) = t := Fin.ext (by unfold rowPoint; show (y 0).val / 2 = t.val; omega)
    rw [if_pos h0, if_pos (by omega), e]
  · by_cases h1 : (y 0).val = 2 * t.val + 1
    · have e : rowPoint (y 0) = t := Fin.ext (by unfold rowPoint; show (y 0).val / 2 = t.val; omega)
      rw [if_neg h0, if_pos h1, if_neg (by omega), e]
    · rw [if_neg h0, if_neg h1, hX y (by omega)]; rfl

/-! ## The proof data -/

/-- The accumulator. -/
abbrev scM : Memref sig .tc .vmem S3072x1280 .f32 := Memref.whole cc0_scratch0

/-- What is held beside the windows before point `n`: the accumulator, at anything before the first point and at
    what the point before left afterwards. -/
def PhiS (c : Dev nD) : (n : ℕ) → n ≤ cfg0.N → sProp 𝕄
  | 0, _ => Pipeline.ΦA spec0 c
  | n + 1, hn => iprop(iprop(owns (c : Thread nD τ) scM fullShare (accN m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accN m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accN m c (n - 1) (by omega))) ∗ (∃ r, prngReg c r)) := by
  cases n with
  | zero => exact absurd rfl hz
  | succ n => rfl

/-- The proof data: the arrays as launched; after the body at a point each input's buffer at its block, each output's at
    the point's contents; beside the windows the accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yOf (xb m c t) (wb m c t)
    | ⟨4, _⟩ => k0_pay5 (accN m c t.val t.isLt)
    | ⟨5, _⟩ => dwOf (xb m c t) (gb m c t)
    | ⟨6, _⟩ => codesOf (wb m c t)
    | ⟨7, _⟩ => scales m c
  Φ t := PhiS m c t.val (Nat.le_of_lt_succ t.isLt)
  q _ := fullShare
  owed _ := 0

/-- The window whose buffer is described by a predicate: that of the scales, of which each point stores two rows. -/
def fgt : Fin cfg0.W → Bool := ![false, false, false, false, false, false, false, true]

/-- The predicate: after point `t` the rows up to and with the point's own are right. -/
def Rl (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, _ => True
  | ⟨3, _⟩, _ => True
  | ⟨4, _⟩, _ => True
  | ⟨5, _⟩, _ => True
  | ⟨6, _⟩, _ => True
  | ⟨7, _⟩, X => ∀ y : S40x128.Idx, (y 0).val < 2 * (t.val + 1) → (X : Vec F S40x128 .f32) y = scales m c y

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = yOf (xb m c t) (wb m c t) := by dsimp only [dats]
theorem after_4 (c : Dev nD) (t : Fin cfg0.N) : (dats m 0 c).after 4 t = k0_pay5 (accN m c t.val t.isLt) := by dsimp only [dats]
theorem after_5 (c : Dev nD) (t : Fin cfg0.N) : (dats m 0 c).after 5 t = dwOf (xb m c t) (gb m c t) := by dsimp only [dats]
theorem after_6 (c : Dev nD) (t : Fin cfg0.N) : (dats m 0 c).after 6 t = codesOf (wb m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body may find in the scales' buffer: the rows of the points before are right. -/
theorem finds_scales (c : Dev nD) (t : Fin cfg0.N) (Y : Vec F S40x128 .f32)
    (h : ((dats m 0 c).toRRel fgt (Rl m c)).Finds 7 t Y) (y : S40x128.Idx) (hy : (y 0).val < 2 * t.val) : Y y = scales m c y := by
  have ht : t.val ≠ 0 := by intro h0; rw [h0] at hy; omega
  have hN : t.val < 20 := lt_of_lt_of_eq t.isLt (show cfg0.N = 20 from N_0)
  rcases (RDat.finds_of_pos _ (w := 7) (t := t) rfl ht Y).mp h with hf | hl
  · have := (flush0_7 _).mp hf; dsimp only at this; omega
  · have hr : Rl m c 7 _ Y := Dat.toRRel_leaves (dats m 0 c) (fgt := fgt) (w := 7) rfl hl
    exact hr y (by dsimp only; omega)

/-! ## The body's obligation -/

/-- What the body is called with at point `t`, window by window; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel fgt (Rl m c)).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ owns (c : Thread nD τ) (st0_5 t) fullShare ((dats m 0 c).after 5 t)
    ∗ owns (c : Thread nD τ) (st0_6 t) fullShare ((dats m 0 c).after 6 t)
    ∗ (∃ X, ⌜Rl m c 7 t X⌝ ∗ owns (c : Thread nD τ) (st0_7 t) fullShare X))

/-- The invariant before the first point, spelt out: the accumulator at anything. -/
theorem PhiA_eq (c : Dev nD) : (Pipeline.ΦA spec0 c : sProp 𝕄) = iprop(iprop(∃ d, owns (c : Thread nD τ) scM fullShare d) ∗ (∃ r, prngReg c r)) := by
  unfold Pipeline.ΦA; rw [scopedRest0_eq]
  simp only [scM, owns_whole]
  try rfl

/-- The rows a point leaves right. -/
theorem rows_left (c : Dev nD) (t : Fin cfg0.N) (Y : Vec F S40x128 .f32) (h : ((dats m 0 c).toRRel fgt (Rl m c)).Finds 7 t Y) :
    Rl m c 7 t (putRows (grid0.coords t 0).val (scale0 (wb m c t)) (scale1 (wb m c t)) Y) := by
  rw [coord_val t]
  exact fun y hy => putRows_scales m c t Y (finds_scales m c t Y h) y hy

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, after_0, after_1, after_2, after_3, after_5, after_6]
  rw [show (dats m 0 c).owesAt () t.succ = (dats m 0 c).owesAt () t.castSucc from rfl]
  rw [show (dats m 0 c).Φ t.succ = PhiS m c (t.val + 1) t.isLt from rfl, PhiS_succ]
  by_cases h0 : first (grid0.coords t)
  · have ht : t.val = 0 := (first_iff t).mp h0
    have h1 : ¬last (grid0.coords t) := fun h => by have := (last_iff t).mp h; omega
    rw [Dat.leavesExact_idle (dats m 0 c) 4 t (idle_dx t h1) (noFlush_dx t h1)]
    rw [PhiS_castSucc m c t, PhiS_zero m c _ _ ht, PhiA_eq, accN_zero m c t ht]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply (run_first c (grid0.coords t) _ _ _ _ _ _ _ _ _ _ _ _ _ _ _ _ _ _ (xb m c t) (wb m c t) (gb m c t) Y h0 h1 _ Set.univ _)
    isplitl [H0]; · iexact H0
    isplitl [H1]; · iexact H1
    isplitl [H2]; · iexact H2
    isplitl [H3]; · iexists _; iexact H3
    isplitl [H4]; · iexact H4
    isplitl [H5]; · iexists _; iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iexists _; isplitr; swap; · iexact H7
    ipureintro; exact rows_left m c t Y hY
  · have ht : t.val ≠ 0 := fun h => h0 ((first_iff t).mpr h)
    rw [PhiS_castSucc m c t, PhiS_pos m c _ _ ht, accN_pos m c t ht]
    by_cases h1 : last (grid0.coords t)
    · rw [show (dats m 0 c).leavesExact 4 t = owns (c : Thread nD τ) (st0_4 t) fullShare ((dats m 0 c).after 4 t) from by
        unfold Dat.leavesExact; rw [live_dx t h1], after_4, accN_pos m c t ht]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
      iapply (run_last c (grid0.coords t) _ _ _ _ _ _ _ _ _ _ _ _ _ _ _ _ _ _ (xb m c t) (wb m c t) (gb m c t) Y h0 h1 _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; isplitr; swap; · iexact H7
      ipureintro; exact rows_left m c t Y hY
    · rw [Dat.leavesExact_idle (dats m 0 c) 4 t (idle_dx t h1) (noFlush_dx t h1)]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
      iapply (run_middle c (grid0.coords t) _ _ _ _ _ _ _ _ _ _ _ _ _ _ _ _ _ _ (xb m c t) (wb m c t) (gb m c t) Y h0 h1 _ _ Set.univ _)
      isplitl [H0]; · iexact H0
      isplitl [H1]; · iexact H1
      isplitl [H2]; · iexact H2
      isplitl [H3]; · iexists _; iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      iexists _; isplitr; swap; · iexact H7
      ipureintro; exact rows_left m c t Y hY

/-- The pipeline calls the body at a point's current buffers. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA_eq]
  iintro ⟨HS0, Hg⟩
  isplitl [HS0]
  · iexists _; iexact HS0
  iexact Hg

end Cert.KernelIdeal.Run

end
-- ==== Proof.Final.lean ====
/-
  The kernel's program run: the five result arrays after it, each by its rows or blocks, and the frame claim.
-/
module

public import proofs.«01_k».proof.Proof.Data
public import Idealize.ShloMosaic.Lib.Pipeline.Frame
public import Idealize.ShloMosaic.Lib.Pipeline.ArrRel
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)
open Idealize.ShloMosaic.ValueIdx
open Cert.KernelIdeal Cert.KernelIdeal.Gen

variable {F : FTy → Type} [FloatOps F]

variable (m : (ℓ : Loc nD τ sig) → Buf (Elt F) ℓ) (ρ : Dev nD → PrngReg)

/-! ## The run -/

/-- The exact data read with the marked window held to its predicate. -/
abbrev rdats (c : Dev nD) := (dats m 0 c).toRRel fgt (Rl m c)

/-- The run of a pipeline whose exact data have some windows held to a predicate, stated at data left variable. -/
theorem θ_run_rel (dats : (p : Fin 1) → (c : Dev nD) → Dat τ (Elt F) Unit ℕ (UR sig nD τ) ℕ (cfgs p) c) (fgt : Fin (cfgs 0).W → Bool)
    (Rl : Dev nD → (w : Fin (cfgs 0).W) → Fin (cfgs 0).N → (((cfgs 0).win w).block.Idx → Elt F ((cfgs 0).win w).elt) → Prop)
    (hbody : ∀ c, Pipeline.BodyObligationRel (dats 0 c) (defs₀ (F := F)) Variants.none () Set.univ fgt (Rl c))
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last (cfgs 0).N) ⊢ Pipeline.ΦA spec0 c) :
    θ_run defs (onTc (τ := τ) (main (F := F))) (s₀ m ρ)
      (fun r => RDat.FramePost (cfgs 0) (fun c => (dats 0 c).toRRel fgt (Rl c)) (V m) r ∧ r.2.sem = fun _ => 0) :=
  Pipeline.RDat.θ_run_frame_track (Q' := _) cfgs (0 : Fin 1) launch0 defs₀ Variants.none (fun c => (dats 0 c).toRRel fgt (Rl c)) m ρ main
    (fun c => (hbody c).toRRel) hshare howed (V m) (hmain m Variants.none) hA hin hout

set_option backward.isDefEq.respectTransparency.types false in
/-- The program's run. -/
theorem run_main : θ_run defs (onTc (τ := τ) (main (F := F))) (s₀ m ρ)
    (fun r => RDat.FramePost (cfgs 0) (fun c => rdats m c) (V m) r ∧ r.2.sem = fun _ => 0) :=
  θ_run_rel m ρ (dats m) fgt (Rl m) (body_obligation m) (fun c => (dats m 0 c).share_full fun _ => rfl) (fun _ _ => rfl) (A_eq m) (hin m) (hout m)

/-- After the run the arguments are as they were. -/
theorem args_of {r : PUnit × MemSt nD τ sig (Elt F)} (h : RDat.FramePost (cfgs 0) (fun c => rdats m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    (h.arr_in c 1 rfl).trans ((A_eq m c 1).trans (V_main_arg1 m c)),
    ((h c).2 main_arg2 (Pipeline.mem_restRefs_of main_arg2 (by decide) (by decide))).trans (V_main_arg2 m c)⟩

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_of m h.1, h.2⟩) (run_main m ρ)

/-! ## The inputs' blocks -/

/-- Point `n` of the grid. -/
def pt (n : ℕ) (h : n < 20) : Fin cfg0.N := ⟨n, by rw [show cfg0.N = 20 from N_0]; exact h⟩

/-- `x` with its two leading axes merged, as the region finds it. -/
abbrev X (c : Dev nD) : Vec F S3072x1280 .bf16 := V m c main_v0
/-- The weights, as the region finds them. -/
abbrev W (c : Dev nD) : Vec F S5120x1280 .f32 := V m c main_arg1
/-- `g` with its two leading axes merged, as the region finds it. -/
abbrev G (c : Dev nD) : Vec F S3072x5120 .bf16 := V m c main_v1

/-- The host's reshape of `x`. -/
abbrev opX : HloOp τ sig (Elt F) := StableHlo.reshape main_arg0 main_v0 (rfl : (.bf16 : EltTy) = .bf16) shapeCasts_S2x1536x1280_S3072x1280
/-- The host's reshape of `g`. -/
abbrev opG : HloOp τ sig (Elt F) := StableHlo.reshape main_arg2 main_v1 (rfl : (.bf16 : EltTy) = .bf16) shapeCasts_S2x1536x5120_S3072x5120

/-- `x` as the region finds it: the argument, its two leading axes merged. -/
theorem X_eq (c : Dev nD) : X m c = shapeCast S3072x1280 (m ((c : Thread nD τ).loc main_arg0)) shapeCasts_S2x1536x1280_S3072x1280 := by
  show (opG : HloOp τ sig (Elt F)).result ((opX : HloOp τ sig (Elt F)).result (fun b => m (c, b))) main_v0 = _
  exact (StableHlo.reshape_result_ne main_arg2 main_v1 _ _ _ _ _ (r := main_v0) (by decide)).trans
    ((StableHlo.reshape_result main_arg0 main_v0 _ _ _ _ _).trans rfl)

/-- `g` as the region finds it: the argument, its two leading axes merged. -/
theorem G_eq (c : Dev nD) : G m c = shapeCast S3072x5120 (m ((c : Thread nD τ).loc main_arg2)) shapeCasts_S2x1536x5120_S3072x5120 := by
  show (opG : HloOp τ sig (Elt F)).result ((opX : HloOp τ sig (Elt F)).result (fun b => m (c, b))) main_v1 = _
  exact (StableHlo.reshape_result main_arg2 main_v1 _ _ _ _ _).trans
    (congrArg (fun v => shapeCast S3072x5120 v shapeCasts_S2x1536x5120_S3072x5120)
      (StableHlo.reshape_result_ne main_arg0 main_v0 _ _ _ _ _ (r := main_arg2) (by decide)))

theorem idx_0 : ∀ t : Fin cfg0.N, win0_0.index t 0 = 0 ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = 0 ∧ win0_2.index t 1 = t.val := by decide +kernel
theorem idx_3 : ∀ t : Fin cfg0.N, win0_3.index t 0 = 0 ∧ win0_3.index t 1 = t.val := by decide +kernel
theorem idx_4 : ∀ t : Fin cfg0.N, win0_4.index t 0 = 0 ∧ win0_4.index t 1 = 0 := by decide +kernel
theorem idx_5 : ∀ t : Fin cfg0.N, win0_5.index t 0 = t.val ∧ win0_5.index t 1 = 0 := by decide +kernel
theorem idx_6 : ∀ t : Fin cfg0.N, win0_6.index t 0 = t.val ∧ win0_6.index t 1 = 0 := by decide +kernel
theorem idx_7 : ∀ t : Fin cfg0.N, win0_7.index t 0 = 0 ∧ win0_7.index t 1 = 0 := by decide +kernel

theorem lt_20 (t : Fin cfg0.N) : t.val < 20 := lt_of_lt_of_eq t.isLt (show cfg0.N = 20 from N_0)

/-- Entry `r` of block `t`, of blocks of 256. -/
def at256 (t : Fin cfg0.N) (r : Fin 256) : Fin 5120 := ⟨t.val * 256 + r.val, by have := lt_20 t; omega⟩

/-- Every block of `x` is the whole of it. -/
theorem xb_eq (c : Dev nD) (t : Fin cfg0.N) : xb m c t = X m c := by
  funext j
  unfold xb iblk
  rw [View.read_apply]
  show V m c main_v0 _ = V m c main_v0 _
  congr 1
  funext a
  apply Fin.ext
  match a with
  | ⟨0, _⟩ => show win0_0.index t 0 * 3072 + 1 * (j 0).val = (j 0).val; rw [(idx_0 t).1]; omega
  | ⟨1, _⟩ => show win0_0.index t 1 * 1280 + 1 * (j 1).val = (j 1).val; rw [(idx_0 t).2]; omega

/-- Block `t` of the weights: rows `256 t` and on. -/
theorem wb_eq (c : Dev nD) (t : Fin cfg0.N) : wb m c t = fun j => W m c (ix2 (at256 t (j 0)) (j 1)) := by
  funext j
  unfold wb iblk
  rw [View.read_apply]
  show V m c main_arg1 _ = V m c main_arg1 _
  congr 1
  funext a
  apply Fin.ext
  match a with
  | ⟨0, _⟩ => show win0_1.index t 0 * 256 + 1 * (j 0).val = t.val * 256 + (j 0).val; rw [(idx_1 t).1]; omega
  | ⟨1, _⟩ => show win0_1.index t 1 * 1280 + 1 * (j 1).val = (j 1).val; rw [(idx_1 t).2]; omega

/-- Block `t` of `g`: columns `256 t` and on. -/
theorem gb_eq (c : Dev nD) (t : Fin cfg0.N) : gb m c t = fun j => G m c (ix2 (j 0) (at256 t (j 1))) := by
  funext j
  unfold gb iblk
  rw [View.read_apply]
  show V m c main_v1 _ = V m c main_v1 _
  congr 1
  funext a
  apply Fin.ext
  match a with
  | ⟨0, _⟩ => show win0_2.index t 0 * 3072 + 1 * (j 0).val = (j 0).val; rw [(idx_2 t).1]; omega
  | ⟨1, _⟩ => show win0_2.index t 1 * 256 + 1 * (j 1).val = t.val * 256 + (j 1).val; rw [(idx_2 t).2]; omega

/-! ## The result arrays -/

/-- The block an entry of an axis of 5120 lies in. -/
def blkOf (o : Fin 5120) : Fin cfg0.N := pt (o.val / 256) (by omega)
/-- Its place in that block. -/
def inBlk (o : Fin 5120) : Fin 256 := ⟨o.val % 256, Nat.mod_lt _ (by norm_num)⟩

theorem blkOf_at256 (t : Fin cfg0.N) (r : Fin 256) : blkOf (at256 t r) = t :=
  Fin.ext (by unfold blkOf pt at256; show (t.val * 256 + r.val) / 256 = t.val; omega)
theorem inBlk_at256 (t : Fin cfg0.N) (r : Fin 256) : inBlk (at256 t r) = r :=
  Fin.ext (by unfold inBlk at256; show (t.val * 256 + r.val) % 256 = r.val; omega)
theorem at256_blkOf (o : Fin 5120) : at256 (blkOf o) (inBlk o) = o :=
  Fin.ext (by unfold blkOf pt inBlk at256; show o.val / 256 * 256 + o.val % 256 = o.val; omega)

theorem ix2_0 {a b : ℕ} (r : Fin a) (k : Fin b) : ix2 r k 0 = r := rfl
theorem ix2_1 {a b : ℕ} (r : Fin a) (k : Fin b) : ix2 r k 1 = k := rfl

/-- `y`, by blocks of columns. -/
def yArr (c : Dev nD) : Vec F S3072x5120 .bf16 := fun i => yOf (X m c) (wb m c (blkOf (i 1))) (ix2 (i 0) (inBlk (i 1)))
/-- `dx`: the accumulator after the last point, cast. -/
def dxArr (c : Dev nD) : Vec F S3072x1280 .bf16 := k0_pay5 (accN m c 19 (by rw [show cfg0.N = 20 from N_0]; decide))
/-- `dw`, by blocks of rows. -/
def dwArr (c : Dev nD) : Vec F S5120x1280 .f32 := fun i => dwOf (X m c) (gb m c (blkOf (i 0))) (ix2 (inBlk (i 0)) (i 1))
/-- The codes, by blocks of rows. -/
def codesArr (c : Dev nD) : Vec F S5120x1280 .fp8e4m3 := fun i => codesOf (wb m c (blkOf (i 0))) (ix2 (inBlk (i 0)) (i 1))

/-- A block written back through window 3 is the array's, if it agrees with it entry by entry. -/
theorem cut_read_3 (t : Fin cfg0.N) (P : Vec F S3072x256 .bf16) (A : Vec F S3072x5120 .bf16) (h : ∀ (r : Fin 3072) (k : Fin 256), P (ix2 r k) = A (ix2 r (at256 t k))) :
    (cfg0.win 3).cut (grid0.coords t) P = ((cfg0.win 3).blk t).view.read (Elt F) A := by
  funext j
  have e : ((cfg0.win 3).blk t).view.emb j = ix2 (j 0) (at256 t (j 1)) := by
    funext a
    apply Fin.ext
    match a with
    | ⟨0, _⟩ => show win0_3.index t 0 * 3072 + 1 * (j 0).val = (j 0).val; rw [(idx_3 t).1]; omega
    | ⟨1, _⟩ => show win0_3.index t 1 * 256 + 1 * (j 1).val = t.val * 256 + (j 1).val; rw [(idx_3 t).2]; omega
  rw [View.read_apply, e]
  exact (congrArg P (eq_ix2 _)).trans (h (j 0) (j 1))

theorem flushed_3 (c : Dev nD) (t : Fin cfg0.N) (hf : (cfg0.win 3).flush t = true) :
    (dats m 0 c).flushed 3 t = ((cfg0.win 3).blk t).view.read (Elt F) (yArr m c) := by
  show (cfg0.win 3).cut (grid0.coords t) ((dats m 0 c).after 3 t) = _
  rw [after_3, xb_eq]
  refine cut_read_3 t _ _ fun r k => ?_
  unfold yArr
  rw [ix2_0, ix2_1, blkOf_at256, inBlk_at256]

theorem final_3 (c : Dev nD) : (dats m 0 c).arrAt 3 cfg0.N = yArr m c :=
  (dats m 0 c).arrAt_eq_of_cover 3 (yArr m c) (flushed_3 m c) fun i =>
    ⟨blkOf (i 1), flush0_3 _, by
      show i ∈ ((View.whole main_v2_0).slice (win0_3.rect (blkOf (i 1)))).set
      rw [View.set_slice_whole, Rect.mem_set_unit]
      intro a
      have h0 : (i 0 : Nat) < 3072 := (i 0).isLt
      have h1 : (i 1 : Nat) < 5120 := (i 1).isLt
      match a with
      | ⟨0, _⟩ => show win0_3.index (blkOf (i 1)) 0 * 3072 ≤ (i 0 : Nat) ∧ (i 0 : Nat) < win0_3.index (blkOf (i 1)) 0 * 3072 + 3072
                  rw [(idx_3 _).1]; omega
      | ⟨1, _⟩ => show win0_3.index (blkOf (i 1)) 1 * 256 ≤ (i 1 : Nat) ∧ (i 1 : Nat) < win0_3.index (blkOf (i 1)) 1 * 256 + 256
                  rw [(idx_3 _).2]; show (i 1 : Nat) / 256 * 256 ≤ _ ∧ _ < (i 1 : Nat) / 256 * 256 + 256; omega⟩

/-- A block written back through window 5 is the array's, if it agrees with it entry by entry. -/
theorem cut_read_5 (t : Fin cfg0.N) (P : Vec F S256x1280 .f32) (A : Vec F S5120x1280 .f32) (h : ∀ (r : Fin 256) (k : Fin 1280), P (ix2 r k) = A (ix2 (at256 t r) k)) :
    (cfg0.win 5).cut (grid0.coords t) P = ((cfg0.win 5).blk t).view.read (Elt F) A := by
  funext j
  have e : ((cfg0.win 5).blk t).view.emb j = ix2 (at256 t (j 0)) (j 1) := by
    funext a
    apply Fin.ext
    match a with
    | ⟨0, _⟩ => show win0_5.index t 0 * 256 + 1 * (j 0).val = t.val * 256 + (j 0).val; rw [(idx_5 t).1]; omega
    | ⟨1, _⟩ => show win0_5.index t 1 * 1280 + 1 * (j 1).val = (j 1).val; rw [(idx_5 t).2]; omega
  rw [View.read_apply, e]
  exact (congrArg P (eq_ix2 _)).trans (h (j 0) (j 1))

theorem flushed_5 (c : Dev nD) (t : Fin cfg0.N) (hf : (cfg0.win 5).flush t = true) :
    (dats m 0 c).flushed 5 t = ((cfg0.win 5).blk t).view.read (Elt F) (dwArr m c) := by
  show (cfg0.win 5).cut (grid0.coords t) ((dats m 0 c).after 5 t) = _
  rw [after_5, xb_eq]
  refine cut_read_5 t _ _ fun r k => ?_
  unfold dwArr
  rw [ix2_0, ix2_1, blkOf_at256, inBlk_at256]

theorem final_5 (c : Dev nD) : (dats m 0 c).arrAt 5 cfg0.N = dwArr m c :=
  (dats m 0 c).arrAt_eq_of_cover 5 (dwArr m c) (flushed_5 m c) fun i =>
    ⟨blkOf (i 0), flush0_5 _, by
      show i ∈ ((View.whole main_v2_2).slice (win0_5.rect (blkOf (i 0)))).set
      rw [View.set_slice_whole, Rect.mem_set_unit]
      intro a
      have h0 : (i 0 : Nat) < 5120 := (i 0).isLt
      have h1 : (i 1 : Nat) < 1280 := (i 1).isLt
      match a with
      | ⟨0, _⟩ => show win0_5.index (blkOf (i 0)) 0 * 256 ≤ (i 0 : Nat) ∧ (i 0 : Nat) < win0_5.index (blkOf (i 0)) 0 * 256 + 256
                  rw [(idx_5 _).1]; show (i 0 : Nat) / 256 * 256 ≤ _ ∧ _ < (i 0 : Nat) / 256 * 256 + 256; omega
      | ⟨1, _⟩ => show win0_5.index (blkOf (i 0)) 1 * 1280 ≤ (i 1 : Nat) ∧ (i 1 : Nat) < win0_5.index (blkOf (i 0)) 1 * 1280 + 1280
                  rw [(idx_5 _).2]; omega⟩

/-- A block written back through window 6 is the array's, if it agrees with it entry by entry. -/
theorem cut_read_6 (t : Fin cfg0.N) (P : Vec F S256x1280 .fp8e4m3) (A : Vec F S5120x1280 .fp8e4m3) (h : ∀ (r : Fin 256) (k : Fin 1280), P (ix2 r k) = A (ix2 (at256 t r) k)) :
    (cfg0.win 6).cut (grid0.coords t) P = ((cfg0.win 6).blk t).view.read (Elt F) A := by
  funext j
  have e : ((cfg0.win 6).blk t).view.emb j = ix2 (at256 t (j 0)) (j 1) := by
    funext a
    apply Fin.ext
    match a with
    | ⟨0, _⟩ => show win0_6.index t 0 * 256 + 1 * (j 0).val = t.val * 256 + (j 0).val; rw [(idx_6 t).1]; omega
    | ⟨1, _⟩ => show win0_6.index t 1 * 1280 + 1 * (j 1).val = (j 1).val; rw [(idx_6 t).2]; omega
  rw [View.read_apply, e]
  exact (congrArg P (eq_ix2 _)).trans (h (j 0) (j 1))

theorem flushed_6 (c : Dev nD) (t : Fin cfg0.N) (hf : (cfg0.win 6).flush t = true) :
    (dats m 0 c).flushed 6 t = ((cfg0.win 6).blk t).view.read (Elt F) (codesArr m c) := by
  show (cfg0.win 6).cut (grid0.coords t) ((dats m 0 c).after 6 t) = _
  rw [after_6]
  refine cut_read_6 t _ _ fun r k => ?_
  unfold codesArr
  rw [ix2_0, ix2_1, blkOf_at256, inBlk_at256]

theorem final_6 (c : Dev nD) : (dats m 0 c).arrAt 6 cfg0.N = codesArr m c :=
  (dats m 0 c).arrAt_eq_of_cover 6 (codesArr m c) (flushed_6 m c) fun i =>
    ⟨blkOf (i 0), flush0_6 _, by
      show i ∈ ((View.whole main_v2_3).slice (win0_6.rect (blkOf (i 0)))).set
      rw [View.set_slice_whole, Rect.mem_set_unit]
      intro a
      have h0 : (i 0 : Nat) < 5120 := (i 0).isLt
      have h1 : (i 1 : Nat) < 1280 := (i 1).isLt
      match a with
      | ⟨0, _⟩ => show win0_6.index (blkOf (i 0)) 0 * 256 ≤ (i 0 : Nat) ∧ (i 0 : Nat) < win0_6.index (blkOf (i 0)) 0 * 256 + 256
                  rw [(idx_6 _).1]; show (i 0 : Nat) / 256 * 256 ≤ _ ∧ _ < (i 0 : Nat) / 256 * 256 + 256; omega
      | ⟨1, _⟩ => show win0_6.index (blkOf (i 0)) 1 * 1280 ≤ (i 1 : Nat) ∧ (i 1 : Nat) < win0_6.index (blkOf (i 0)) 1 * 1280 + 1280
                  rw [(idx_6 _).2]; omega⟩

/-- The last point. -/
abbrev tLast : Fin cfg0.N := pt 19 (by norm_num)

theorem flushed_4 (c : Dev nD) (t : Fin cfg0.N) (hf : (cfg0.win 4).flush t = true) :
    (dats m 0 c).flushed 4 t = ((cfg0.win 4).blk t).view.read (Elt F) (dxArr m c) := by
  have h19 : t.val = 19 := by have := (flush0_4 t).mp hf; have := lt_20 t; omega
  obtain rfl : t = tLast := Fin.ext h19
  show (cfg0.win 4).cut (grid0.coords tLast) ((dats m 0 c).after 4 tLast) = _
  rw [after_4]
  have hz' : (fun a => win0_4.index tLast a * main_v2_1.ty.shape.size a) = fun _ => 0 := funext fun a => by fin_cases a <;> decide
  exact (Memref.read_access_unit_zero (Elt F) main_v2_1 hz' (fun a => by rw [congrFun hz' a]; simp) (dxArr m c)).symm

theorem final_4 (c : Dev nD) : (dats m 0 c).arrAt 4 cfg0.N = dxArr m c :=
  (dats m 0 c).arrAt_eq_of_cover 4 (dxArr m c) (flushed_4 m c) fun i =>
    ⟨tLast, (flush0_4 tLast).mpr rfl, by
      show i ∈ ((View.whole main_v2_1).slice (win0_4.rect tLast)).set
      rw [View.set_slice_whole, Rect.mem_set_unit]
      intro a
      have h0 : (i 0 : Nat) < 3072 := (i 0).isLt
      have h1 : (i 1 : Nat) < 1280 := (i 1).isLt
      match a with
      | ⟨0, _⟩ => show win0_4.index tLast 0 * 3072 ≤ (i 0 : Nat) ∧ (i 0 : Nat) < win0_4.index tLast 0 * 3072 + 3072
                  rw [(idx_4 _).1]; omega
      | ⟨1, _⟩ => show win0_4.index tLast 1 * 1280 ≤ (i 1 : Nat) ∧ (i 1 : Nat) < win0_4.index tLast 1 * 1280 + 1280
                  rw [(idx_4 _).2]; omega⟩

/-- An array that an unmarked window stages ends at what the exact data say. -/
theorem arr_exact {r : PUnit × MemSt nD τ sig (Elt F)} (h : RDat.FramePost (cfgs 0) (fun c => rdats m c) (V m) r) (c : Dev nD)
    (w : Fin cfg0.W) (hw : fgt w = false) :
    r.2.mem (((cfgs 0).spec w).arr.view.loc (c.tc : Thread nD τ)) = (dats m 0 c).arrAt w cfg0.N :=
  (((dats m 0 c).toR.override_arrAt (by simp only [hw]) _ _).trans ((dats m 0 c).toR_arrAt_iff w _ _)).mp ((h c).1 w)

theorem wholeAt_7 : (cfg0.win 7).WholeAt tLast := by decide +kernel

/-- The array of scales ends at `scales`. -/
theorem arr_scales {r : PUnit × MemSt nD τ sig (Elt F)} (h : RDat.FramePost (cfgs 0) (fun c => rdats m c) (V m) r) (c : Dev nD) :
    r.2.mem ((c.tc : Thread nD τ).loc main_v2_4) = scales m c := by
  obtain ⟨X, hX, hG⟩ := RDat.ArrAt.emb_eq_of_wholeAt ((h c).1 7) wholeAt_7
  have hr : Rl m c 7 tLast X := Dat.toRRel_leaves (dats m 0 c) (fgt := fgt) (w := 7) rfl hX
  funext y
  have e := hG y
  have hy := hr y (by have : (y 0 : Nat) < 40 := (y 0).isLt; show (y 0 : Nat) < 2 * (19 + 1); omega)
  exact e.trans hy

/-- The run, read: the five results, and the arguments unchanged. -/
theorem run : θ_run defs (onTc (τ := τ) (main (F := F))) ⟨m, fun _ => 0, ρ⟩ fun r => ∀ c : Dev nD,
      (r.2.mem ((c.tc : Thread nD τ).loc main_v2_0) = yArr m c
        ∧ r.2.mem ((c.tc : Thread nD τ).loc main_v2_1) = dxArr m c
        ∧ r.2.mem ((c.tc : Thread nD τ).loc main_v2_2) = dwArr m c
        ∧ r.2.mem ((c.tc : Thread nD τ).loc main_v2_3) = codesArr m c
        ∧ r.2.mem ((c.tc : Thread nD τ).loc main_v2_4) = scales m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨⟨(arr_exact m h.1 c 3 rfl).trans (final_3 m c), (arr_exact m h.1 c 4 rfl).trans (final_4 m c),
    (arr_exact m h.1 c 5 rfl).trans (final_5 m c), (arr_exact m h.1 c 6 rfl).trans (final_6 m c), arr_scales m h.1 c⟩, args_of m h.1 c⟩)
    (run_main m ρ)

end Cert.KernelIdeal.Run

end
-- ==== Proof.SameText.lean ====
/-
  The kernel as printed for the machine and the kernel as printed for the reals are one program text: the frame claim of
  the one, proved for any reading of the floats, is the frame claim of the other.
-/
module

public import proofs.«01_k».proof.Defs
public import proofs.«01_k».proof.Proof.Gen.Kernel
public import proofs.«01_k».proof.Proof.Final

@[expose] public section

noncomputable section

namespace Cert.Kernel.Run

open Idealize.ShloMosaic Idealize.ShloMosaic.TcCoe Idealize.SL.Sem

variable {F : FTy → Type} [FloatOps F]

/-- The host functions are the same. -/
theorem main_eq : Cert.Kernel.main (F := F) = Cert.KernelIdeal.main (F := F) := by
  with_unfolding_all rfl

/-- The body tables are the same. -/
theorem defs₀_eq : Cert.Kernel.defs₀ (F := F) = Cert.KernelIdeal.defs₀ (F := F) := by
  show Defs.onTc _ = Defs.onTc _
  congr 1
  funext l x
  obtain ⟨l, hl⟩ := l
  match l, hl, x with
  | 0, _, (t, s) => with_unfolding_all rfl

/-- The tables with the pipeline's own entries are the same. -/
theorem defs_eq : Cert.Kernel.defs (F := F) = Cert.KernelIdeal.defs (F := F) := by
  unfold Cert.Kernel.defs Cert.KernelIdeal.defs
  rw [defs₀_eq]
  rfl

/-- The frame claim of the kernel as printed for the machine. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [main_eq, defs_eq]
  exact Cert.KernelIdeal.Run.frame m ρ

end Cert.Kernel.Run

end
-- ==== Proof.RefRun.lean ====
/-
  The reference's program run: it has no grid, so each result array ends at what the one body leaves, a function of the
  whole arrays it finds.
-/
module

public import proofs.«01_k».proof.Proof.Gen.ReferenceIdeal.Frame
public import Idealize.ShloMosaic.Lib.Pipeline.ValueKit
public import Idealize.ShloMosaic.Lib.ValueIdx

@[expose] public section

set_option maxRecDepth 16384

noncomputable section

namespace Cert.ReferenceIdeal.Run

open Idealize.ShloMosaic Idealize.ShloMosaic.TcCoe Idealize.ShloMosaic.Tactic
open Idealize.SL Idealize.SL.RA Idealize.SL.Sem
open Idealize.ShloMosaic.Pipeline (Dat Cfg Window)
open Idealize.ShloMosaic.ValueIdx
open Cert.ReferenceIdeal Cert.ReferenceIdeal.Gen

variable {F : FTy → Type} [FloatOps F]

variable (m : (ℓ : Loc nD τ sig) → Buf (Elt F) ℓ) (ρ : Dev nD → PrngReg)

/-- `x` with its two leading axes merged, as the region finds it. -/
abbrev X (c : Dev nD) : Vec F S3072x1280 .bf16 := V m c main_v0
/-- The weights, as the region finds them. -/
abbrev W (c : Dev nD) : Vec F S5120x1280 .f32 := V m c main_arg1
/-- `g` with its two leading axes merged, as the region finds it. -/
abbrev G (c : Dev nD) : Vec F S3072x5120 .bf16 := V m c main_v1

theorem hz : (![0, 0] : Fin 2 → Nat) = fun _ => 0 := funext fun a => by fin_cases a <;> rfl

/-- The one block of `x` is the whole of it. -/
theorem iblk_0 (c : Dev nD) : iblk m c 0 t0_0 = X m c :=
  Memref.read_access_unit_zero (Elt F) main_v0 (off := fun a => win0_0.index t0_0 a * main_v0.ty.shape.size a)
    (funext fun a => by fin_cases a <;> decide) (fun a => by fin_cases a <;> decide) (V m c main_v0)
/-- The one block of the weights is the whole of them. -/
theorem iblk_1 (c : Dev nD) : iblk m c 1 t0_0 = W m c :=
  Memref.read_access_unit_zero (Elt F) main_arg1 (off := fun a => win0_1.index t0_0 a * main_arg1.ty.shape.size a)
    (funext fun a => by fin_cases a <;> decide) (fun a => by fin_cases a <;> decide) (V m c main_arg1)
/-- The one block of `g` is the whole of it. -/
theorem iblk_2 (c : Dev nD) : iblk m c 2 t0_0 = G m c :=
  Memref.read_access_unit_zero (Elt F) main_v1 (off := fun a => win0_2.index t0_0 a * main_v1.ty.shape.size a)
    (funext fun a => by fin_cases a <;> decide) (fun a => by fin_cases a <;> decide) (V m c main_v1)

theorem out_3 (x : Vec F S3072x1280 .bf16) (w : Vec F S5120x1280 .f32) (g : Vec F S3072x5120 .bf16) : out0_3 x w g = k0_pay10 x w := by
  unfold out0_3; rw [View.canon_unit_zero hz, View.ld_unit_zero hz, View.ld_unit_zero hz]
theorem out_4 (x : Vec F S3072x1280 .bf16) (w : Vec F S5120x1280 .f32) (g : Vec F S3072x5120 .bf16) : out0_4 x w g = k0_pay1 (k0_pay11 w g) := by
  unfold out0_4; rw [View.canon_unit_zero hz, View.ld_unit_zero hz, View.ld_unit_zero hz]
theorem out_5 (x : Vec F S3072x1280 .bf16) (w : Vec F S5120x1280 .f32) (g : Vec F S3072x5120 .bf16) : out0_5 x w g = k0_pay2 (k0_pay4 x) (k0_pay5 g) := by
  unfold out0_5; rw [View.canon_unit_zero hz, View.ld_unit_zero hz, View.ld_unit_zero hz]
theorem out_6 (x : Vec F S3072x1280 .bf16) (w : Vec F S5120x1280 .f32) (g : Vec F S3072x5120 .bf16) : out0_6 x w g = k0_pay8 w := by
  unfold out0_6; rw [View.canon_unit_zero hz, View.ld_unit_zero hz]
theorem out_7 (x : Vec F S3072x1280 .bf16) (w : Vec F S5120x1280 .f32) (g : Vec F S3072x5120 .bf16) : out0_7 x w g = k0_pay3 (k0_pay7 w) := by
  unfold out0_7; rw [View.canon_unit_zero hz, View.ld_unit_zero hz]

/-- The array of `y` after the run. -/
theorem final_3 (c : Dev nD) : (dats m 0 c).arrAt 3 cfg0.N = k0_pay10 (X m c) (W m c) :=
  funext fun i => ((dats m 0 c).arrAt_emb_eq_after_last 3 t0_0 (by decide +kernel) i).trans
    (congrFun ((after0_3 m c t0_0).trans (by rw [iblk_0, iblk_1, iblk_2, out_3])) i)
/-- The array of `dx` after the run. -/
theorem final_4 (c : Dev nD) : (dats m 0 c).arrAt 4 cfg0.N = k0_pay1 (k0_pay11 (W m c) (G m c)) :=
  funext fun i => ((dats m 0 c).arrAt_emb_eq_after_last 4 t0_0 (by decide +kernel) i).trans
    (congrFun ((after0_4 m c t0_0).trans (by rw [iblk_0, iblk_1, iblk_2, out_4])) i)
/-- The array of `dw` after the run. -/
theorem final_5 (c : Dev nD) : (dats m 0 c).arrAt 5 cfg0.N = k0_pay2 (k0_pay4 (X m c)) (k0_pay5 (G m c)) :=
  funext fun i => ((dats m 0 c).arrAt_emb_eq_after_last 5 t0_0 (by decide +kernel) i).trans
    (congrFun ((after0_5 m c t0_0).trans (by rw [iblk_0, iblk_1, iblk_2, out_5])) i)
/-- The array of codes after the run. -/
theorem final_6 (c : Dev nD) : (dats m 0 c).arrAt 6 cfg0.N = k0_pay8 (W m c) :=
  funext fun i => ((dats m 0 c).arrAt_emb_eq_after_last 6 t0_0 (by decide +kernel) i).trans
    (congrFun ((after0_6 m c t0_0).trans (by rw [iblk_0, iblk_1, iblk_2, out_6])) i)
/-- The array of scales after the run. -/
theorem final_7 (c : Dev nD) : (dats m 0 c).arrAt 7 cfg0.N = k0_pay3 (k0_pay7 (W m c)) :=
  funext fun i => ((dats m 0 c).arrAt_emb_eq_after_last 7 t0_0 (by decide +kernel) i).trans
    (congrFun ((after0_7 m c t0_0).trans (by rw [iblk_0, iblk_1, iblk_2, out_7])) i)

/-- The run, read: the five results, and the arguments unchanged. -/
theorem run : θ_run defs (onTc (τ := τ) (main (F := F))) ⟨m, fun _ => 0, ρ⟩ fun r => ∀ c : Dev nD,
      (r.2.mem ((c.tc : Thread nD τ).loc main_v2_0) = k0_pay10 (X m c) (W m c)
        ∧ r.2.mem ((c.tc : Thread nD τ).loc main_v2_1) = k0_pay1 (k0_pay11 (W m c) (G m c))
        ∧ r.2.mem ((c.tc : Thread nD τ).loc main_v2_2) = k0_pay2 (k0_pay4 (X m c)) (k0_pay5 (G m c))
        ∧ r.2.mem ((c.tc : Thread nD τ).loc main_v2_3) = k0_pay8 (W m c)
        ∧ r.2.mem ((c.tc : Thread nD τ).loc main_v2_4) = k0_pay3 (k0_pay7 (W m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨⟨((h c).1 3).trans (final_3 m c), ((h c).1 4).trans (final_4 m c), ((h c).1 5).trans (final_5 m c),
      ((h c).1 6).trans (final_6 m c), ((h c).1 7).trans (final_7 m c)⟩,
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩) (run_main m ρ)

/-- The host's reshape of `x`. -/
abbrev opX : HloOp τ sig (Elt F) := StableHlo.reshape main_arg0 main_v0 (rfl : (.bf16 : EltTy) = .bf16) shapeCasts_S2x1536x1280_S3072x1280
/-- The host's reshape of `g`. -/
abbrev opG : HloOp τ sig (Elt F) := StableHlo.reshape main_arg2 main_v1 (rfl : (.bf16 : EltTy) = .bf16) shapeCasts_S2x1536x5120_S3072x5120

/-- `x` as the region finds it: the argument, its two leading axes merged. -/
theorem X_eq (c : Dev nD) : X m c = shapeCast S3072x1280 (m ((c : Thread nD τ).loc main_arg0)) shapeCasts_S2x1536x1280_S3072x1280 := by
  show (opG : HloOp τ sig (Elt F)).result ((opX : HloOp τ sig (Elt F)).result (fun b => m (c, b))) main_v0 = _
  exact (StableHlo.reshape_result_ne main_arg2 main_v1 _ _ _ _ _ (r := main_v0) (by decide)).trans
    ((StableHlo.reshape_result main_arg0 main_v0 _ _ _ _ _).trans rfl)

/-- `g` as the region finds it: the argument, its two leading axes merged. -/
theorem G_eq (c : Dev nD) : G m c = shapeCast S3072x5120 (m ((c : Thread nD τ).loc main_arg2)) shapeCasts_S2x1536x5120_S3072x5120 := by
  show (opG : HloOp τ sig (Elt F)).result ((opX : HloOp τ sig (Elt F)).result (fun b => m (c, b))) main_v1 = _
  exact (StableHlo.reshape_result main_arg2 main_v1 _ _ _ _ _).trans
    (congrArg (fun v => shapeCast S3072x5120 v shapeCasts_S2x1536x5120_S3072x5120)
      (StableHlo.reshape_result_ne main_arg0 main_v0 _ _ _ _ _ (r := main_arg2) (by decide)))

end Cert.ReferenceIdeal.Run

end
-- ==== Proof.Scale.lean ====
/-
  The scale of one row, over the extended reals: the kernel counts the powers of two that are at most `v`, the reference
  takes the floor of the logarithm of `v` in base two. On the values a row may take both give one power of two.
-/
module

public import Idealize.ShloMosaic.PureOps.Ideal
public import Idealize.ShloMosaic.Lib.IdealHost

@[expose] public section

noncomputable section

namespace Cert.Scale

open Idealize.ShloMosaic

/-! ## Words that are powers of two -/

/-- The f32 word whose exponent field is `e` and whose other fields are zero. -/
def powWord (e : ℕ) : BitVec 32 := BitVec.ofNat 32 e <<< (23#32)

theorem powWord_fields : ∀ e : Fin 256, ((powWord e.val).extractLsb' 23 8).toNat = e.val
    ∧ ((powWord e.val).extractLsb' 0 23).toNat = 0 ∧ ((powWord e.val).extractLsb' 31 1 == 1#1) = false := by decide +kernel

/-- The word of exponent field 0 is zero. -/
theorem powWord_zero : Ideal.ofBits .f32 (powWord 0) = 0 := by
  have h : _ ∧ _ ∧ _ := powWord_fields 0
  rw [show ((0 : Fin 256).val) = 0 from rfl] at h
  simp only [Ideal.ofBits, Ideal.ieee]
  rw [show (8 + 23 : ℕ) = 31 from rfl, h.2.2, h.1, h.2.1]
  simp

/-- The word of exponent field 255 is infinity. -/
theorem powWord_top : Ideal.ofBits .f32 (powWord 255) = ⊤ := by
  have h : _ ∧ _ ∧ _ := powWord_fields 255
  rw [show ((255 : Fin 256).val) = 255 from rfl] at h
  simp only [Ideal.ofBits, Ideal.ieee]
  rw [show (8 + 23 : ℕ) = 31 from rfl, h.2.2, h.1, h.2.1]
  simp

theorem pow_split (e : ℕ) : ((1 : ℝ) * ((2 ^ 23 + 0 : ℕ) : ℝ) * (2 : ℝ) ^ ((e : ℤ) - 127 - 23)) = (2 : ℝ) ^ ((e : ℤ) - 127) := by
  rw [zpow_sub₀ (by norm_num : (2 : ℝ) ≠ 0) ((e : ℤ) - 127) 23]
  generalize (2 : ℝ) ^ ((e : ℤ) - 127) = x
  norm_num
  ring

/-- Between, the word of exponent field `e` is `2 ^ (e - 127)`. -/
theorem powWord_mid (e : ℕ) (h0 : 1 ≤ e) (h1 : e ≤ 254) : Ideal.ofBits .f32 (powWord e) = (((2 : ℝ) ^ ((e : ℤ) - 127) : ℝ) : EReal) := by
  obtain ⟨hx, hf, hs⟩ := powWord_fields ⟨e, by omega⟩
  simp only [Ideal.ofBits, Ideal.ieee]
  rw [show (8 + 23 : ℕ) = 31 from rfl]
  simp only at hx hf hs
  rw [hs, hx, hf, if_neg (by omega), if_neg (by omega), if_neg (by decide), show ((2 : ℤ) ^ (8 - 1) - 1) = 127 by norm_num,
    show ((23 : ℕ) : ℤ) = 23 from rfl, pow_split]

/-! ## The kernel's exponent -/

/-- How many of the 256 powers are at most `v`. -/
def count (v : EReal) : ℕ := (Finset.univ.filter fun k : Fin 256 => Ideal.ofBits .f32 (powWord k.val) ≤ v).card

/-- The kernel's exponent word: the count less one, and 126 where that is 0 or 255. -/
def expWord (v : EReal) : BitVec 32 :=
  if ((BitVec.ofNat 32 (count v) - 1#32) &&& 255#32) = 0#32 ∨ ((BitVec.ofNat 32 (count v) - 1#32) &&& 255#32) = 255#32 then 126#32
  else (BitVec.ofNat 32 (count v) - 1#32) &&& 255#32

/-- The kernel's scale of a row whose greatest magnitude over 448 is `v`. -/
def kScale (v : EReal) : EReal := Ideal.ofBits .f32 ((expWord v + 1#32) <<< (23#32))
/-- The kernel's inverse scale. -/
def kInv (v : EReal) : EReal := Ideal.ofBits .f32 ((253#32 - expWord v) <<< (23#32))

/-- A value between two neighbouring powers: the powers up to the lower one are counted. -/
theorem count_mid (v : ℝ) (n : ℕ) (h0 : 1 ≤ n) (h1 : n ≤ 252) (hl : (2 : ℝ) ^ ((n : ℤ) - 127) ≤ v) (hu : v < (2 : ℝ) ^ ((n : ℤ) - 126)) :
    count (v : EReal) = n + 1 := by
  have e : (Finset.univ.filter fun k : Fin 256 => Ideal.ofBits .f32 (powWord k.val) ≤ (v : EReal)) = Finset.Iic (⟨n, by omega⟩ : Fin 256) := by
    ext k
    rw [Finset.mem_filter, Finset.mem_Iic, Fin.le_def]
    have hk := k.isLt
    simp only [Finset.mem_univ, true_and]
    rcases Nat.eq_zero_or_pos k.val with hz | hp
    · rw [hz, powWord_zero]
      refine iff_of_true ?_ (Nat.zero_le _)
      exact_mod_cast le_trans (by positivity) hl
    rcases Nat.lt_or_ge 254 k.val with ht | ht
    · rw [show k.val = 255 by omega, powWord_top]
      exact iff_of_false (not_le.mpr (EReal.coe_lt_top v)) (by show ¬ (255 ≤ n); omega)
    rw [powWord_mid k.val hp ht, EReal.coe_le_coe_iff]
    constructor
    · intro h
      by_contra hn
      have hn' : n + 1 ≤ k.val := by simpa using hn
      have : (2 : ℝ) ^ ((n : ℤ) - 126) ≤ (2 : ℝ) ^ ((k.val : ℤ) - 127) := zpow_le_zpow_right₀ (by norm_num) (by omega)
      linarith
    · intro h
      have h' : k.val ≤ n := h
      exact le_trans (zpow_le_zpow_right₀ (by norm_num) (by omega)) hl
  unfold count
  rw [e, Fin.card_Iic]

/-- At zero, the zero word alone is counted. -/
theorem count_zero : count 0 = 1 := by
  have e : (Finset.univ.filter fun k : Fin 256 => Ideal.ofBits .f32 (powWord k.val) ≤ (0 : EReal)) = {0} := by
    ext k
    rw [Finset.mem_filter, Finset.mem_singleton]
    have hk := k.isLt
    simp only [Finset.mem_univ, true_and]
    rcases Nat.eq_zero_or_pos k.val with hz | hp
    · rw [hz, powWord_zero]
      exact iff_of_true le_rfl (Fin.ext hz)
    refine iff_of_false ?_ (fun h => by rw [h] at hp; exact absurd hp (by decide))
    rw [not_le]
    rcases Nat.lt_or_ge 254 k.val with ht | ht
    · rw [show k.val = 255 by omega, powWord_top]; exact EReal.coe_lt_top 0
    rw [powWord_mid k.val hp ht]
    exact_mod_cast (by positivity : (0 : ℝ) < (2 : ℝ) ^ ((k.val : ℤ) - 127))
  unfold count
  rw [e, Finset.card_singleton]

theorem word_mid : ∀ n : Fin 253, 1 ≤ n.val → (BitVec.ofNat 32 (n.val + 1) - 1#32) &&& 255#32 = BitVec.ofNat 32 n.val
    ∧ BitVec.ofNat 32 n.val ≠ 0#32 ∧ BitVec.ofNat 32 n.val ≠ 255#32
    ∧ (BitVec.ofNat 32 n.val + 1#32) <<< (23#32) = powWord (n.val + 1)
    ∧ (253#32 - BitVec.ofNat 32 n.val) <<< (23#32) = powWord (253 - n.val) := by decide +kernel

theorem kScale_mid (v : ℝ) (n : ℕ) (h0 : 1 ≤ n) (h1 : n ≤ 252) (hl : (2 : ℝ) ^ ((n : ℤ) - 127) ≤ v) (hu : v < (2 : ℝ) ^ ((n : ℤ) - 126)) :
    kScale (v : EReal) = (((2 : ℝ) ^ ((n : ℤ) - 126) : ℝ) : EReal) ∧ kInv (v : EReal) = (((2 : ℝ) ^ (126 - (n : ℤ)) : ℝ) : EReal) := by
  obtain ⟨a, b, c, d, e⟩ := word_mid ⟨n, by omega⟩ h0
  simp only at a b c d e
  have hw : expWord (v : EReal) = BitVec.ofNat 32 n := by
    unfold expWord
    rw [count_mid v n h0 h1 hl hu, a, if_neg (by rintro (h | h); exacts [b h, c h])]
  unfold kScale kInv
  rw [hw, d, e, powWord_mid _ (by omega) (by omega), powWord_mid _ (by omega) (by omega)]
  constructor
  · congr 2; push_cast; ring
  · congr 2; omega

theorem kScale_zero : kScale 0 = 1 ∧ kInv 0 = 1 := by
  have hw : expWord 0 = 126#32 := by
    unfold expWord
    rw [count_zero]
    decide
  have h : Ideal.ofBits .f32 (powWord 127) = 1 := by
    rw [powWord_mid 127 (by norm_num) (by norm_num)]; norm_num
  unfold kScale kInv
  rw [hw]
  exact ⟨h, h⟩

/-! ## The reference's exponent -/

/-- The reference's exponent of a row whose greatest magnitude is `a`: `⌊log v / log 2⌋ + 1`, and 0 where `a = 0`. -/
def rExp (a v : EReal) : EReal := if a = 0 then 0 else Ideal.liftRound Int.floor (Ideal.div (Ideal.log v) (Ideal.log (Ideal.ofBits .f32 0x40000000#32))) + 1

theorem ofBits_two : Ideal.ofBits .f32 0x40000000#32 = ((2 : ℝ) : EReal) := by
  have : Ideal.ofBits .f32 (powWord 128) = (((2 : ℝ) ^ ((128 : ℕ) - 127 : ℤ) : ℝ) : EReal) := powWord_mid 128 (by norm_num) (by norm_num)
  rw [show (0x40000000#32) = powWord 128 by decide, this]
  norm_num

theorem rExp_mid (a : EReal) (ha : a ≠ 0) (v : ℝ) (n : ℤ) (hl : (2 : ℝ) ^ n ≤ v) (hu : v < (2 : ℝ) ^ (n + 1)) :
    rExp a (v : EReal) = (((n + 1 : ℤ) : ℝ) : EReal) := by
  have hv : 0 < v := lt_of_lt_of_le (by positivity) hl
  have h2 : (0 : ℝ) < Real.log 2 := Real.log_pos (by norm_num)
  have hfl : ⌊Real.log v * (1 / Real.log 2)⌋ = n := by
    rw [mul_one_div, Int.floor_eq_iff, le_div_iff₀ h2, div_lt_iff₀ h2]
    constructor
    · rw [← Real.log_zpow]; exact Real.log_le_log (by positivity) hl
    · rw [show ((n : ℝ) + 1) = (((n + 1 : ℤ)) : ℝ) by push_cast; ring, ← Real.log_zpow]; exact Real.log_lt_log hv hu
  have hlog2 : Real.log 2 ≠ 0 := h2.ne'
  unfold rExp
  rw [if_neg ha, ofBits_two, Ideal.log_coe, Ideal.log_coe, if_neg (not_le.mpr hv), if_neg (by norm_num), Ideal.div_coe hlog2, ← EReal.coe_mul,
    Ideal.liftRound_coe, hfl]
  push_cast
  rfl

/-! ## The rows the claim is about -/

/-- The f32 reading of 1/448. -/
def inv448 : EReal := Ideal.ofBits .f32 0x3B124925#32

/-- What the claim's precondition says of a row's greatest magnitude `a`: it is zero; or it is a float and `a / 448` is a normal float. -/
def Normal (a : EReal) : Prop := a = 0 ∨ (Ideal.ofBits .f32 0x00800000#32 ≤ a * inv448 ∧ a ≤ Ideal.ofBits .f32 0x7F7FFFFF#32)

theorem inv448_eq : ∃ r : ℝ, inv448 = (r : EReal) ∧ 0 < r ∧ r < (2 : ℝ) ^ (-8 : ℤ) := by
  refine ⟨(9586981 : ℝ) * (2 : ℝ) ^ (-32 : ℤ), ?_, by positivity, by norm_num⟩
  unfold inv448
  simp only [Ideal.ofBits, Ideal.ieee]
  rw [show ((0x3B124925#32).extractLsb' (8 + 23) 1 == 1#1) = false by decide, show ((0x3B124925#32).extractLsb' 23 8).toNat = 118 by decide,
    show ((0x3B124925#32).extractLsb' 0 23).toNat = 1198373 by decide, if_neg (by norm_num), if_neg (by norm_num)]
  congr 1
  norm_num

theorem tiny_eq : Ideal.ofBits .f32 0x00800000#32 = (((2 : ℝ) ^ (-126 : ℤ) : ℝ) : EReal) := by
  rw [show (0x00800000#32) = powWord 1 by decide, powWord_mid 1 (by norm_num) (by norm_num)]
  norm_num

theorem huge_eq : ∃ r : ℝ, Ideal.ofBits .f32 0x7F7FFFFF#32 = (r : EReal) ∧ r < (2 : ℝ) ^ (128 : ℤ) := by
  refine ⟨(16777215 : ℝ) * (2 : ℝ) ^ (104 : ℤ), ?_, by norm_num⟩
  simp only [Ideal.ofBits, Ideal.ieee]
  rw [show ((0x7F7FFFFF#32).extractLsb' (8 + 23) 1 == 1#1) = false by decide, show ((0x7F7FFFFF#32).extractLsb' 23 8).toNat = 254 by decide,
    show ((0x7F7FFFFF#32).extractLsb' 0 23).toNat = 8388607 by decide, if_neg (by norm_num), if_neg (by norm_num)]
  congr 1
  norm_num

/-- On such a row the kernel's scale and inverse scale are the reference's. -/
theorem scale_eq (a : EReal) (h : Normal a) :
    kScale (a * inv448) = Ideal.exp2 (rExp a (a * inv448)) ∧ kInv (a * inv448) = Ideal.exp2 (0 - rExp a (a * inv448)) := by
  by_cases ha : a = 0
  · subst ha
    rw [zero_mul]
    have hr : rExp 0 0 = ((0 : ℝ) : EReal) := if_pos rfl
    have h1 : Ideal.exp2 ((0 : ℝ) : EReal) = 1 := by
      rw [Ideal.exp2_coe]; exact congrArg _ (Real.rpow_zero 2)
    have h2 : (0 : EReal) - ((0 : ℝ) : EReal) = ((0 : ℝ) : EReal) := by rw [EReal.coe_zero, sub_zero]
    rw [hr, h2, h1]
    exact kScale_zero
  rcases h with h | ⟨hl, hu⟩
  · exact absurd h ha
  obtain ⟨c, hc, hc0, hc8⟩ := inv448_eq
  obtain ⟨M, hM, hM128⟩ := huge_eq
  rw [hM] at hu
  rw [hc, tiny_eq] at hl
  rw [hc]
  induction a using EReal.rec with
  | bot => rw [EReal.bot_mul_coe_of_pos hc0] at hl; exact absurd hl (by simp)
  | top => exact absurd hu (by simp)
  | coe a =>
    rw [← EReal.coe_mul, EReal.coe_le_coe_iff] at hl
    rw [EReal.coe_le_coe_iff] at hu
    rw [← EReal.coe_mul]
    have hv : 0 < a * c := lt_of_lt_of_le (by positivity) hl
    obtain ⟨n, hn1, hn2⟩ := exists_mem_Ico_zpow hv (by norm_num : (1 : ℝ) < 2)
    have hlt : a * c < (2 : ℝ) ^ (120 : ℤ) := by
      have h1 : a * c < (2 : ℝ) ^ (128 : ℤ) * c := mul_lt_mul_of_pos_right (lt_of_le_of_lt hu hM128) hc0
      have h2 : (2 : ℝ) ^ (128 : ℤ) * c < (2 : ℝ) ^ (128 : ℤ) * (2 : ℝ) ^ (-8 : ℤ) := mul_lt_mul_of_pos_left hc8 (by positivity)
      have h3 : (2 : ℝ) ^ (128 : ℤ) * (2 : ℝ) ^ (-8 : ℤ) = (2 : ℝ) ^ (120 : ℤ) := by norm_num
      linarith
    have hnl : -126 ≤ n := by
      have : (2 : ℝ) ^ (-126 : ℤ) < (2 : ℝ) ^ (n + 1) := lt_of_le_of_lt hl hn2
      have := (zpow_lt_zpow_iff_right₀ (by norm_num : (1 : ℝ) < 2)).mp this
      omega
    have hnu : n < 120 := (zpow_lt_zpow_iff_right₀ (by norm_num : (1 : ℝ) < 2)).mp (lt_of_le_of_lt hn1 hlt)
    obtain ⟨k, hk⟩ : ∃ k : ℕ, (k : ℤ) = n + 127 := ⟨(n + 127).toNat, by omega⟩
    obtain ⟨e1, e2⟩ := kScale_mid (a * c) k (by omega) (by omega) (by rw [hk]; simpa using hn1)
      (by rw [hk, show n + 127 - 126 = n + 1 by ring]; exact hn2)
    rw [e1, e2, rExp_mid _ ha _ n hn1 hn2]
    constructor
    · rw [Ideal.exp2_coe, hk, show n + 127 - 126 = n + 1 by ring]
      congr 1
      exact (Real.rpow_intCast 2 (n + 1)).symm
    · rw [show (0 : EReal) - (((n + 1 : ℤ) : ℝ) : EReal) = (((-(n + 1) : ℤ) : ℝ) : EReal) by rw [zero_sub, ← EReal.coe_neg]; push_cast; rfl,
        Ideal.exp2_coe, hk, show 126 - (n + 127) = -(n + 1) by ring]
      congr 1
      exact (Real.rpow_intCast 2 (-(n + 1))).symm

end Cert.Scale

end
-- ==== Proof.Spec.lean ====
/-
  The greatest magnitude of a row, and the scalar entry of the codes: what both programs compute from it.
-/
module

public import proofs.«01_k».proof.Proof.Scale
public import Idealize.ShloMosaic.Lib.Pointwise

@[expose] public section

noncomputable section

namespace Cert.Spec

open Idealize.ShloMosaic

/-- The greatest magnitude in row `r` of a matrix of 1280 columns. -/
def rowMax {R : ℕ} (w : (⟨2, ![R, 1280]⟩ : Shape).Idx → EReal) (r : Fin R) : EReal :=
  Finset.fold max (Ideal.ofBits .f32 0xFF800000#32) (fun k : Fin 1280 => FloatOps.absf (F := Ideal) (φ := .f32) (w (ix2 r k))) Finset.univ

/-- A code: the entry times the inverse scale, clamped to `[-448, 448]`. -/
def code (x inv : EReal) : EReal := min (Ideal.ofBits .f32 0x43E00000#32) (max (Ideal.ofBits .f32 0xC3E00000#32) (x * inv))

/-- Equal rows have equal greatest magnitudes. -/
theorem rowMax_congr {R R' : ℕ} (w : (⟨2, ![R, 1280]⟩ : Shape).Idx → EReal) (w' : (⟨2, ![R', 1280]⟩ : Shape).Idx → EReal) (r : Fin R) (r' : Fin R')
    (h : ∀ k : Fin 1280, w (ix2 r k) = w' (ix2 r' k)) : rowMax w r = rowMax w' r' := by
  unfold rowMax
  congr 1
  funext k
  rw [h k]

end Cert.Spec

end
-- ==== Proof.Pre.lean ====
/-
  What the precondition says of each row of the weights.
-/
module

public import proofs.«01_k».proof.Pre_normal_row_maxima
public import proofs.«01_k».proof.Proof.Spec

@[expose] public section

set_option maxRecDepth 16384

noncomputable section

namespace Cert.Pre

open Idealize.ShloMosaic
open Cert.Scale Cert.Spec

/-- The three tests of the precondition, read as propositions. -/
theorem normal_of_bits (a : EReal) (h : IntOp.ori (BitVec.ofBool (decide (a = 0))) (IntOp.andi
    (BitVec.ofBool (decide (Ideal.ofBits .f32 0x00800000#32 ≤ a * inv448)))
    (BitVec.ofBool (decide (a ≤ Ideal.ofBits .f32 0x7F7FFFFF#32)))) = 1#1) : Normal a := by
  unfold Normal
  by_cases h0 : a = 0
  · exact Or.inl h0
  by_cases h1 : Ideal.ofBits .f32 0x00800000#32 ≤ a * inv448
  · by_cases h2 : a ≤ Ideal.ofBits .f32 0x7F7FFFFF#32
    · exact Or.inr ⟨h1, h2⟩
    · rw [decide_eq_false h0, decide_eq_true h1, decide_eq_false h2] at h; exact absurd h (by decide)
  · rw [decide_eq_false h0, decide_eq_false h1] at h
    generalize decide (a ≤ Ideal.ofBits .f32 0x7F7FFFFF#32) = b at h
    cases b <;> exact absurd h (by decide)

open Cert.Pre_normal_row_maxima in
/-- The row maxima, as the precondition has them. -/
def hmax [Facts] (w : FVec Ideal S5120x1280 .f32) : FVec Ideal S5120 .f32 :=
  Host.reduce FloatOps.maximumf (Host.absf w) (constant S_ .f32 0xFF800000#32) Facts.reducesTo_S5120x1280_S5120_d1 Facts.h_S_

open Cert.Pre_normal_row_maxima in
theorem hmax_apply [Facts] (w : FVec Ideal S5120x1280 .f32) (r : Fin 5120) : hmax w (ix1 r) = rowMax w r := by
  pointwise [hmax]
  rfl

open Cert.Pre_normal_row_maxima in
/-- The tests, from the row maxima. -/
def tests [Facts] (v : FVec Ideal S5120 .f32) : IVec S5120 1 :=
  ori (cmpf .oeq v (broadcastInDim S5120 ![] Facts.bcast_S_S5120 (constant S_ .f32 0x00000000#32)))
    (andi (cmpf .oge (mulf v (broadcastInDim S5120 ![] Facts.bcast_S_S5120 (constant S_ .f32 0x3B124925#32)))
        (broadcastInDim S5120 ![] Facts.bcast_S_S5120 (constant S_ .f32 0x00800000#32)))
      (cmpf .ole v (broadcastInDim S5120 ![] Facts.bcast_S_S5120 (constant S_ .f32 0x7F7FFFFF#32))))

open Cert.Pre_normal_row_maxima in
theorem tests_apply [Facts] (v : FVec Ideal S5120 .f32) (i : S5120.Idx) : tests v i = IntOp.ori (BitVec.ofBool (decide (v i = 0)))
    (IntOp.andi (BitVec.ofBool (decide (Ideal.ofBits .f32 0x00800000#32 ≤ v i * inv448)))
      (BitVec.ofBool (decide (v i ≤ Ideal.ofBits .f32 0x7F7FFFFF#32)))) := by
  pointwise [tests]
  rfl

open Cert.Pre_normal_row_maxima in
theorem fn_eq [Facts] (x : FVec Ideal S2x1536x1280 .bf16) (w : FVec Ideal S5120x1280 .f32) (g : FVec Ideal S2x1536x5120 .bf16) :
    fn x w g = tests (hmax w) := rfl

open Cert.Pre_normal_row_maxima in
/-- Every row the precondition accepts has a greatest magnitude that is zero, or a float with a normal 448th part. -/
theorem normal_of_pre [Facts] (x : FVec Ideal S2x1536x1280 .bf16) (w : FVec Ideal S5120x1280 .f32) (g : FVec Ideal S2x1536x5120 .bf16)
    (h : fn x w g = fun _ => 1#1) (r : Fin 5120) : Normal (rowMax w r) := by
  have h' : tests (hmax w) (ix1 r) = 1#1 := by rw [← fn_eq x w g, h]
  rw [tests_apply, hmax_apply] at h'
  exact normal_of_bits _ h'

end Cert.Pre

end
-- ==== Proof.Kern.lean ====
/-
  The kernel body's values over the extended reals, entry by entry.
-/
module

public import proofs.«01_k».proof.Proof.Gen.KernelIdeal.Skeleton
public import proofs.«01_k».proof.Proof.Spec
public import Idealize.ShloMosaic.Lib.IndicatorCount

@[expose] public section

set_option maxRecDepth 16384

noncomputable section

namespace Cert.KernelIdeal.Entry

open Idealize.ShloMosaic
open Cert.KernelIdeal Cert.KernelIdeal.Gen Cert.Scale Cert.Spec

theorem shli_23 (x : BitVec 32) : IntOp.shli .vector x 23#32 = x <<< (23#32) := rfl

/-- The kernel's count, as it is summed. -/
theorem fold_count (v : EReal) :
    Finset.fold IntOp.addi (0#32) (fun k : Fin 256 => BitVec.setWidth 32 (BitVec.ofBool (decide
      (Ideal.ofBits FTy.f32 (IntOp.shli .vector (BitVec.ofNat 32 k.val) 23#32) ≤ v)))) Finset.univ = BitVec.ofNat 32 (Scale.count v) := by
  rw [IndicatorCount.fold_addi_setWidth_eq_card]
  unfold Scale.count
  congr 2
  ext k
  rw [Finset.mem_filter, Finset.mem_filter, shli_23, ← powWord]
  by_cases h : Ideal.ofBits .f32 (powWord k.val) ≤ v <;> simp [h]

theorem cmpi_ne {x y : BitVec 32} (h : x ≠ y) : IntOp.cmpi .eq x y = 0#1 := by
  show BitVec.ofBool (x == y) = 0#1
  rw [beq_eq_false_iff_ne.mpr h]
  rfl

/-- The choice of the exponent word, on the masked count. -/
theorem select_word (x : BitVec 32) :
    Scalar.select (IntOp.ori (IntOp.cmpi .eq x 0#32) (IntOp.cmpi .eq x 255#32)) 126#32 x = if x = 0#32 ∨ x = 255#32 then 126#32 else x := by
  by_cases h0 : x = 0#32
  · subst h0; rfl
  by_cases h1 : x = 255#32
  · subst h1; rfl
  rw [if_neg (by rintro (h | h); exacts [h0 h, h1 h])]
  have e0 : IntOp.cmpi .eq x 0#32 = 0#1 := cmpi_ne h0
  have e1 : IntOp.cmpi .eq x 255#32 = 0#1 := cmpi_ne h1
  rw [e0, e1]
  rfl

/-- The row maxima, as the body keeps them. -/
def amax (w : Vec Ideal S256x1280 .f32) : FVec Ideal S256x1 .f32 :=
  shapeCast S256x1 (multiReduction .maximumf [1] S256 (absf (F := Ideal) (φ := .f32) w) 0xFF800000#32 reduces_S256x1280_S256 (.inl rfl) rfl)
    shapeCasts_S256_S256x1

theorem amax_apply (w : Vec Ideal S256x1280 .f32) (r : Fin 256) : amax w (ix2 r 0) = rowMax w r := by
  pointwise [amax]
  rfl

/-- The powers of two, in one row. -/
def powers : FVec Ideal S1x256 .f32 :=
  bitcastToFloat .f32 (shli (iota .tc S1x256 32 [1] iota_S1x256_d1_w32) (broadcast S1x256 23#32))

theorem powers_apply (k : Fin 256) : powers (ix2 0 k) = Ideal.ofBits .f32 (powWord k.val) := by
  pointwise [powers]
  rfl

/-- The counts, from the row maxima. -/
def counts (v : FVec Ideal S256x1 .f32) (p : FVec Ideal S1x256 .f32) : IVec S256x1 32 :=
  shapeCast S256x1 (multiReductionI .add [1] S256 (extui 32 (cmpf .oge (broadcastTo S256x256 (mulf v (broadcast S256x1 (Scalar.ofBits .f32 0x3B124925#32))) broadcasts_S256x1_S256x256)
    (broadcastTo S256x256 p broadcasts_S1x256_S256x256)) natLt_1_32) 0#32 reduces_S256x256_S256 rfl) shapeCasts_S256_S256x1

theorem counts_apply (v : FVec Ideal S256x1 .f32) (p : FVec Ideal S1x256 .f32) (r : Fin 256) :
    counts v p (ix2 r 0) = Finset.fold IntOp.addi (0#32) (fun k : Fin 256 => BitVec.setWidth 32 (BitVec.ofBool (decide
      (p (ix2 0 k) ≤ v (ix2 r 0) * inv448)))) Finset.univ := by
  pointwise [counts]
  rfl

/-- The exponent words, from the counts. -/
def words (c : IVec S256x1 32) : IVec S256x1 32 :=
  select (ori (cmpi .eq (andi (subi c (broadcast S256x1 1#32)) (broadcast S256x1 255#32)) (broadcast S256x1 0#32))
    (cmpi .eq (andi (subi c (broadcast S256x1 1#32)) (broadcast S256x1 255#32)) (broadcast S256x1 255#32)))
    (broadcast S256x1 126#32) (andi (subi c (broadcast S256x1 1#32)) (broadcast S256x1 255#32))

theorem words_apply (c : IVec S256x1 32) (i : S256x1.Idx) : words c i =
    if ((c i - 1#32) &&& 255#32) = 0#32 ∨ ((c i - 1#32) &&& 255#32) = 255#32 then 126#32 else (c i - 1#32) &&& 255#32 :=
  select_word ((c i - 1#32) &&& 255#32)

theorem pay6_eq (w : Vec Ideal S256x1280 .f32) : k0_pay6 w = words (counts (amax w) powers) := rfl

/-- The exponent word of a row. -/
theorem pay6_apply (w : Vec Ideal S256x1280 .f32) (r : Fin 256) : k0_pay6 w (ix2 r 0) = expWord (rowMax w r * inv448) := by
  rw [pay6_eq, words_apply, counts_apply, amax_apply]
  simp only [powers_apply]
  generalize rowMax w r * inv448 = v
  unfold expWord
  rw [← fold_count]
  rfl

/-- The scales, from the exponent words. -/
def scalesBy (e : IVec S256x1 32) : FVec Ideal S256x1 .f32 :=
  bitcastToFloat .f32 (shli (addi e (broadcast S256x1 1#32)) (broadcast S256x1 23#32))

theorem scalesBy_apply (e : IVec S256x1 32) (i : S256x1.Idx) : scalesBy e i = Ideal.ofBits .f32 ((e i + 1#32) <<< (23#32)) := rfl

theorem pay7_eq (w : Vec Ideal S256x1280 .f32) : k0_pay7 w = scalesBy (k0_pay6 w) := rfl

/-- The scale of a row. -/
theorem pay7_apply (w : Vec Ideal S256x1280 .f32) (r : Fin 256) : k0_pay7 w (ix2 r 0) = kScale (rowMax w r * inv448) := by
  rw [pay7_eq, scalesBy_apply, pay6_apply, kScale]

/-- The inverse scales, from the exponent words. -/
def invsBy (e : IVec S256x1 32) : FVec Ideal S256x1 .f32 :=
  bitcastToFloat .f32 (shli (subi (broadcast S256x1 253#32) e) (broadcast S256x1 23#32))

theorem invsBy_apply (e : IVec S256x1 32) (i : S256x1.Idx) : invsBy e i = Ideal.ofBits .f32 ((253#32 - e i) <<< (23#32)) := rfl

/-- The codes, from the inverse scales. -/
def codesBy (w : Vec Ideal S256x1280 .f32) (s : FVec Ideal S256x1 .f32) : FVec Ideal S256x1280 .fp8e4m3 :=
  truncf .fp8e4m3 (minimumf (broadcast S256x1280 (Scalar.ofBits .f32 0x43E00000#32)) (maximumf (broadcast S256x1280 (Scalar.ofBits .f32 0xC3E00000#32))
    (mulf (F := Ideal) (φ := .f32) w (broadcastTo S256x1280 s broadcasts_S256x1_S256x1280)))) bitsLt_fp8e4m3_f32

theorem codesBy_apply (w : Vec Ideal S256x1280 .f32) (s : FVec Ideal S256x1 .f32) (r : Fin 256) (k : Fin 1280) :
    codesBy w s (ix2 r k) = code (w (ix2 r k)) (s (ix2 r 0)) := by
  pointwise [codesBy]
  rfl

theorem codes_eq (w : Vec Ideal S256x1280 .f32) : k0_pay10 (k0_pay8 w) k0_pay9 = codesBy w (invsBy (k0_pay6 w)) := rfl

/-- The codes. -/
theorem codes_apply (w : Vec Ideal S256x1280 .f32) (r : Fin 256) (k : Fin 1280) :
    k0_pay10 (k0_pay8 w) k0_pay9 (ix2 r k) = code (w (ix2 r k)) (kInv (rowMax w r * inv448)) := by
  rw [codes_eq, codesBy_apply, invsBy_apply, pay6_apply, kInv]

/-- The weights the products take: code times scale. -/
theorem wq_apply (w : Vec Ideal S256x1280 .f32) (r : Fin 256) (k : Fin 1280) :
    k0_pay14 (k0_pay7 w) (k0_pay8 w) k0_pay9 (ix2 r k) = code (w (ix2 r k)) (kInv (rowMax w r * inv448)) * kScale (rowMax w r * inv448) := by
  pointwise [Gen.k0_pay14]
  rw [pay7_apply, codes_apply]

/-- A sum along the diagonal of its one entry that is not zero. -/
theorem diag_sum (f : Fin 128 → EReal) (l : Fin 128) :
    (∑ x : Fin 128, Scalar.select (IntOp.cmpi .eq (BitVec.ofNat 32 x.val) (BitVec.ofNat 32 l.val)) (f x) 0) = f l := by
  rw [Finset.sum_eq_single l]
  · have e : IntOp.cmpi .eq (BitVec.ofNat 32 l.val) (BitVec.ofNat 32 l.val) = 1#1 := by simp [IntOp.cmpi]
    rw [e]; rfl
  · intro b _ hb
    have hne : BitVec.ofNat 32 b.val ≠ BitVec.ofNat 32 l.val := by
      intro h
      have := congrArg BitVec.toNat h
      rw [BitVec.toNat_ofNat, BitVec.toNat_ofNat, Nat.mod_eq_of_lt (by omega), Nat.mod_eq_of_lt (by omega)] at this
      exact hb (Fin.ext this)
    have e : IntOp.cmpi .eq (BitVec.ofNat 32 b.val) (BitVec.ofNat 32 l.val) = 0#1 := cmpi_ne hne
    rw [e]; rfl
  · intro h; exact absurd (Finset.mem_univ l) h

/-- The first 128 scales of a block, turned into a row. -/
theorem pay12_apply (v : FVec Ideal S256x1 .f32) (l : Fin 128) : k0_pay12 v (ix2 0 l) = v (ix2 ⟨l.val, by omega⟩ 0) := by
  pointwise [Gen.k0_pay12, Gen.k0_pay11]
  exact diag_sum (fun x => v (ix2 ⟨x.val, by omega⟩ 0)) l

/-- The last 128 scales of a block, turned into a row. -/
theorem pay13_apply (v : FVec Ideal S256x1 .f32) (l : Fin 128) : k0_pay13 v (ix2 0 l) = v (ix2 ⟨128 + l.val, by omega⟩ 0) := by
  pointwise [Gen.k0_pay13, Gen.k0_pay11]
  exact diag_sum (fun x => v (ix2 ⟨128 + x.val, by omega⟩ 0)) l

/-- The first product. -/
theorem y_apply (w : FVec Ideal S256x1280 .bf16) (x : FVec Ideal S3072x1280 .bf16) (i : Fin 3072) (l : Fin 256) :
    k0_pay2 w (k0_pay16 x) (ix2 i l) = ∑ k : Fin 1280, x (ix2 i k) * w (ix2 l k) := by
  pointwise [Gen.k0_pay2, Gen.k0_pay16]

/-- The weights' gradient. -/
theorem dw_apply (x : FVec Ideal S3072x1280 .bf16) (g : Vec Ideal S3072x256 .bf16) (i : Fin 256) (l : Fin 1280) :
    k0_pay3 (k0_pay16 x) g (ix2 i l) = ∑ k : Fin 3072, g (ix2 k i) * x (ix2 k l) := by
  pointwise [Gen.k0_pay3, Gen.k0_pay16, Gen.k0_pay1]

/-- What one block adds to the gradient of `x`. -/
theorem acc_apply (w : FVec Ideal S256x1280 .bf16) (g : Vec Ideal S3072x256 .bf16) (s : Vec Ideal S3072x1280 .f32) (i : Fin 3072) (l : Fin 1280) :
    k0_pay4 w g s (ix2 i l) = s (ix2 i l) + ∑ k : Fin 256, g (ix2 i k) * w (ix2 k l) := by
  pointwise [Gen.k0_pay4, Gen.k0_pay1]

/-- The accumulator starts at zero. -/
theorem acc0_apply (i : Fin 3072) (l : Fin 1280) : (k0_pay15 (F := Ideal)) (ix2 i l) = 0 := by
  pointwise [Gen.k0_pay15]

theorem dx_apply (s : Vec Ideal S3072x1280 .f32) (i : Fin 3072) (l : Fin 1280) : k0_pay5 s (ix2 i l) = s (ix2 i l) := by
  pointwise [Gen.k0_pay5]

end Cert.KernelIdeal.Entry

end
-- ==== Proof.RefEntry.lean ====
/-
  The reference body's values over the extended reals, entry by entry.
-/
module

public import proofs.«01_k».proof.Proof.Gen.ReferenceIdeal.Skeleton
public import proofs.«01_k».proof.Proof.Spec

@[expose] public section

set_option maxRecDepth 16384

noncomputable section

namespace Cert.ReferenceIdeal.Entry

open Idealize.ShloMosaic
open Cert.ReferenceIdeal Cert.ReferenceIdeal.Gen Cert.Scale Cert.Spec

/-- The row maxima, as the body keeps them. -/
def amax (w : Vec Ideal S5120x1280 .f32) : FVec Ideal S5120x1 .f32 :=
  shapeCast S5120x1 (multiReduction .maximumf [1] S5120 (absf (F := Ideal) (φ := .f32) w) 0xFF800000#32 reduces_S5120x1280_S5120 (.inl rfl) rfl)
    shapeCasts_S5120_S5120x1

theorem amax_apply (w : Vec Ideal S5120x1280 .f32) (r : Fin 5120) : amax w (ix2 r 0) = rowMax w r := by
  pointwise [amax]
  rfl

/-- The exponents, from the row maxima. -/
def exps (v : FVec Ideal S5120x1 .f32) : FVec Ideal S5120x1 .f32 :=
  select (cmpf .oeq v (broadcast S5120x1 (Scalar.ofBits .f32 0x00000000#32))) (broadcast S5120x1 (Scalar.ofBits .f32 0x00000000#32))
    (addf (floor (divf (log (mulf v (broadcast S5120x1 (Scalar.ofBits .f32 0x3B124925#32))))
      (log (broadcast S5120x1 (Scalar.ofBits .f32 0x40000000#32))))) (broadcast S5120x1 (Scalar.ofBits .f32 0x3F800000#32)))

theorem exps_apply (v : FVec Ideal S5120x1 .f32) (i : S5120x1.Idx) : exps v i = rExp (v i) (v i * inv448) := by
  pointwise [exps]
  rfl

theorem pay6_eq (w : Vec Ideal S5120x1280 .f32) : k0_pay6 w = exps (amax w) := rfl

/-- The exponent of a row. -/
theorem pay6_apply (w : Vec Ideal S5120x1280 .f32) (r : Fin 5120) : k0_pay6 w (ix2 r 0) = rExp (rowMax w r) (rowMax w r * inv448) := by
  rw [pay6_eq, exps_apply, amax_apply]

theorem exp2_apply (e : FVec Ideal S5120x1 .f32) (i : S5120x1.Idx) : exp2 e i = Ideal.exp2 (e i) := rfl

theorem pay7_eq (w : Vec Ideal S5120x1280 .f32) : k0_pay7 w = exp2 (k0_pay6 w) := rfl

/-- The scale of a row. -/
theorem pay7_apply (w : Vec Ideal S5120x1280 .f32) (r : Fin 5120) : k0_pay7 w (ix2 r 0) = Ideal.exp2 (rExp (rowMax w r) (rowMax w r * inv448)) := by
  rw [pay7_eq, exp2_apply, pay6_apply]

/-- The codes, from the inverse scales. -/
def codesBy (w : Vec Ideal S5120x1280 .f32) (s : FVec Ideal S5120x1 .f32) : FVec Ideal S5120x1280 .fp8e4m3 :=
  truncf .fp8e4m3 (minimumf (broadcast S5120x1280 (Scalar.ofBits .f32 0x43E00000#32)) (maximumf (broadcast S5120x1280 (Scalar.ofBits .f32 0xC3E00000#32))
    (mulf (F := Ideal) (φ := .f32) w (broadcastTo S5120x1280 s broadcasts_S5120x1_S5120x1280)))) bitsLt_fp8e4m3_f32

theorem codesBy_apply (w : Vec Ideal S5120x1280 .f32) (s : FVec Ideal S5120x1 .f32) (r : Fin 5120) (k : Fin 1280) :
    codesBy w s (ix2 r k) = code (w (ix2 r k)) (s (ix2 r 0)) := by
  pointwise [codesBy]
  rfl

/-- The inverse scales, from the exponents. -/
def invs (e : FVec Ideal S5120x1 .f32) : FVec Ideal S5120x1 .f32 := exp2 (subf (broadcast S5120x1 (Scalar.ofBits .f32 0x00000000#32)) e)

theorem invs_apply (e : FVec Ideal S5120x1 .f32) (i : S5120x1.Idx) : invs e i = Ideal.exp2 (0 - e i) := by
  unfold invs
  rw [exp2_apply]
  congr 1
  pointwise []

theorem pay8_eq (w : Vec Ideal S5120x1280 .f32) : k0_pay8 w = codesBy w (invs (k0_pay6 w)) := rfl

/-- The codes. -/
theorem codes_apply (w : Vec Ideal S5120x1280 .f32) (r : Fin 5120) (k : Fin 1280) :
    k0_pay8 w (ix2 r k) = code (w (ix2 r k)) (Ideal.exp2 (0 - rExp (rowMax w r) (rowMax w r * inv448))) := by
  rw [pay8_eq, codesBy_apply, invs_apply, pay6_apply]

/-- The weights the products take: code times scale. -/
theorem wq_apply (w : Vec Ideal S5120x1280 .f32) (r : Fin 5120) (k : Fin 1280) :
    k0_pay9 w (ix2 r k) = code (w (ix2 r k)) (Ideal.exp2 (0 - rExp (rowMax w r) (rowMax w r * inv448)))
      * Ideal.exp2 (rExp (rowMax w r) (rowMax w r * inv448)) := by
  pointwise [Gen.k0_pay9]
  rw [pay7_apply, codes_apply]

/-- The scales, as rows of 128. -/
theorem scales_apply (v : FVec Ideal S5120x1 .f32) (i : Fin 40) (l : Fin 128) : k0_pay3 v (ix2 i l) = v (ix2 ⟨i.val * 128 + l.val, by omega⟩ 0) := by
  pointwise [Gen.k0_pay3]

/-- The first product. -/
theorem y_apply (x : FVec Ideal S3072x1280 .bf16) (w : Vec Ideal S5120x1280 .f32) (i : Fin 3072) (l : Fin 5120) :
    k0_pay10 x w (ix2 i l) = ∑ k : Fin 1280, x (ix2 i k) * k0_pay9 w (ix2 l k) := by
  pointwise [Gen.k0_pay10, Gen.k0_pay4]

/-- The weights' gradient. -/
theorem dw_apply (x : FVec Ideal S3072x1280 .bf16) (g : Vec Ideal S3072x5120 .bf16) (i : Fin 5120) (l : Fin 1280) :
    k0_pay2 (k0_pay4 x) (k0_pay5 g) (ix2 i l) = ∑ k : Fin 3072, g (ix2 k i) * x (ix2 k l) := by
  pointwise [Gen.k0_pay2, Gen.k0_pay4, Gen.k0_pay5]

/-- The gradient of `x`. -/
theorem dx_apply (w : Vec Ideal S5120x1280 .f32) (g : Vec Ideal S3072x5120 .bf16) (i : Fin 3072) (l : Fin 1280) :
    k0_pay1 (k0_pay11 w g) (ix2 i l) = ∑ k : Fin 5120, g (ix2 i k) * k0_pay9 w (ix2 k l) := by
  pointwise [Gen.k0_pay1, Gen.k0_pay11, Gen.k0_pay5]

end Cert.ReferenceIdeal.Entry

end
-- ==== Proof.Agree.lean ====
/-
  The five result arrays of the kernel's program are the reference's, over the extended reals, where every row's greatest
  magnitude is zero or has a normal 448th part.
-/
module

public import proofs.«01_k».proof.Proof.Final
public import proofs.«01_k».proof.Proof.Kern
public import proofs.«01_k».proof.Proof.RefEntry
public import Idealize.ShloMosaic.Lib.Pointwise.IndexBridge

@[expose] public section

set_option maxRecDepth 16384

noncomputable section

namespace Cert.Agree

open Idealize.ShloMosaic
open Cert.KernelIdeal Cert.KernelIdeal.Gen Cert.KernelIdeal.Run Cert.Scale Cert.Spec

variable (m : (ℓ : Loc nD τ sig) → Buf (Elt Ideal) ℓ) (c : Dev nD)

/-! ## The inputs' blocks -/

theorem wb_apply (t : Fin cfg0.N) (r : Fin 256) (k : Fin 1280) : wb m c t (ix2 r k) = W m c (ix2 (at256 t r) k) := by
  rw [wb_eq]
  exact congrArg (W m c) (ix2_eq_valueIdx _ _).symm

theorem gb_apply (t : Fin cfg0.N) (i : Fin 3072) (k : Fin 256) : gb m c t (ix2 i k) = G m c (ix2 i (at256 t k)) := by
  rw [gb_eq]
  exact congrArg (G m c) (ix2_eq_valueIdx _ _).symm

/-- A block's row has the greatest magnitude of the row it is. -/
theorem rowMax_wb (t : Fin cfg0.N) (r : Fin 256) : rowMax (wb m c t) r = rowMax (W m c) (at256 t r) :=
  rowMax_congr _ _ _ _ fun k => wb_apply m c t r k

/-! ## Entries of the result arrays, in the blocks they come from -/

theorem yArr_apply (a : Fin 3072) (b : Fin 5120) : yArr m c (ix2 a b) = yOf (X m c) (wb m c (blkOf b)) (ix2 a (inBlk b)) :=
  congrArg (yOf (X m c) (wb m c (blkOf b))) (ix2_eq_valueIdx a (inBlk b)).symm

theorem dwArr_apply (a : Fin 5120) (b : Fin 1280) : dwArr m c (ix2 a b) = dwOf (X m c) (gb m c (blkOf a)) (ix2 (inBlk a) b) :=
  congrArg (dwOf (X m c) (gb m c (blkOf a))) (ix2_eq_valueIdx (inBlk a) b).symm

theorem codesArr_apply (a : Fin 5120) (b : Fin 1280) : codesArr m c (ix2 a b) = codesOf (wb m c (blkOf a)) (ix2 (inBlk a) b) :=
  congrArg (codesOf (wb m c (blkOf a))) (ix2_eq_valueIdx (inBlk a) b).symm

theorem scales_even (a : Fin 40) (b : Fin 128) (h : a.val % 2 = 0) : scales m c (ix2 a b) = scale0 (wb m c (rowPoint a)) (ix2 0 b) :=
  (if_pos h).trans (congrArg (scale0 (wb m c (rowPoint a))) (ix2_eq_valueIdx 0 b).symm)

theorem scales_odd (a : Fin 40) (b : Fin 128) (h : ¬ a.val % 2 = 0) : scales m c (ix2 a b) = scale1 (wb m c (rowPoint a)) (ix2 0 b) :=
  (if_neg h).trans (congrArg (scale1 (wb m c (rowPoint a))) (ix2_eq_valueIdx 0 b).symm)

/-! ## The equalities -/

variable (hN : ∀ r : Fin 5120, Normal (rowMax (W m c) r))
include hN

/-- The codes. -/
theorem codes_eq : codesArr m c = Cert.ReferenceIdeal.Gen.k0_pay8 (W m c) := by
  funext i
  obtain ⟨a, b, rfl⟩ : ∃ (a : Fin 5120) (b : Fin 1280), i = ix2 a b := ⟨i 0, i 1, eq_ix2 i⟩
  rw [codesArr_apply, codesOf, Entry.codes_apply, wb_apply, rowMax_wb, at256_blkOf, (scale_eq _ (hN a)).2]
  exact (Cert.ReferenceIdeal.Entry.codes_apply (W m c) a b).symm

/-- The weights a block's products take are the reference's. -/
theorem wq_eq (t : Fin cfg0.N) (r : Fin 256) (k : Fin 1280) :
    wqOf (wb m c t) (ix2 r k) = Cert.ReferenceIdeal.Gen.k0_pay9 (W m c) (ix2 (at256 t r) k) := by
  rw [wqOf, Entry.wq_apply, wb_apply, rowMax_wb, (scale_eq _ (hN _)).1, (scale_eq _ (hN _)).2]
  exact (Cert.ReferenceIdeal.Entry.wq_apply (W m c) (at256 t r) k).symm

/-- The first product. -/
theorem y_eq : yArr m c = Cert.ReferenceIdeal.Gen.k0_pay10 (X m c) (W m c) := by
  funext i
  obtain ⟨a, b, rfl⟩ : ∃ (a : Fin 3072) (b : Fin 5120), i = ix2 a b := ⟨i 0, i 1, eq_ix2 i⟩
  rw [yArr_apply, yOf, Entry.y_apply]
  refine Eq.trans ?_ (Cert.ReferenceIdeal.Entry.y_apply (X m c) (W m c) a b).symm
  refine Finset.sum_congr rfl fun k _ => ?_
  rw [wq_eq m c hN, at256_blkOf]

omit hN in
/-- The weights' gradient. -/
theorem dw_eq : dwArr m c = Cert.ReferenceIdeal.Gen.k0_pay2 (Cert.ReferenceIdeal.Gen.k0_pay4 (X m c)) (Cert.ReferenceIdeal.Gen.k0_pay5 (G m c)) := by
  funext i
  obtain ⟨a, b, rfl⟩ : ∃ (a : Fin 5120) (b : Fin 1280), i = ix2 a b := ⟨i 0, i 1, eq_ix2 i⟩
  rw [dwArr_apply, dwOf, Entry.dw_apply]
  refine Eq.trans ?_ (Cert.ReferenceIdeal.Entry.dw_apply (X m c) (G m c) a b).symm
  refine Finset.sum_congr rfl fun k _ => ?_
  rw [gb_apply, at256_blkOf]

/-- One term of the sum that is an entry of the gradient of `x`. -/
def dxTerm (a : Fin 3072) (b : Fin 1280) (o : ℕ) : EReal :=
  if h : o < 5120 then G m c (ix2 a ⟨o, h⟩) * Cert.ReferenceIdeal.Gen.k0_pay9 (F := Ideal) (W m c) (ix2 ⟨o, h⟩ b) else 0

omit hN in
theorem dxTerm_at256 (a : Fin 3072) (b : Fin 1280) (t : Fin cfg0.N) (k : Fin 256) :
    dxTerm m c a b (t.val * 256 + k.val) = G m c (ix2 a (at256 t k)) * Cert.ReferenceIdeal.Gen.k0_pay9 (F := Ideal) (W m c) (ix2 (at256 t k) b) :=
  dif_pos (at256 t k).isLt

/-- One block's share of the sum. -/
theorem block_sum (a : Fin 3072) (b : Fin 1280) (t : Fin cfg0.N) :
    (∑ k : Fin 256, gb m c t (ix2 a k) * wqOf (wb m c t) (ix2 k b)) = ∑ k ∈ Finset.range 256, dxTerm m c a b (t.val * 256 + k) := by
  rw [Finset.sum_range]
  refine Finset.sum_congr rfl fun k _ => ?_
  rw [dxTerm_at256, gb_apply, wq_eq m c hN]

/-- After point `n` the accumulator holds the sum over the blocks up to it. -/
theorem accN_apply (a : Fin 3072) (b : Fin 1280) : ∀ (n : ℕ) (h : n < cfg0.N),
    accN m c n h (ix2 a b) = ∑ o ∈ Finset.range (n * 256 + 256), dxTerm m c a b o
  | 0, h => by
    rw [accN, accOf, Entry.acc_apply, acc0, Entry.acc0_apply, zero_add, block_sum m c hN]
    refine Finset.sum_congr rfl fun k _ => ?_
    congr 1
    show 0 * 256 + k = k
    omega
  | n + 1, h => by
    rw [accN, accOf, Entry.acc_apply, accN_apply a b n (Nat.lt_of_succ_lt h), block_sum m c hN,
      Finset.sum_range_add (fun o => dxTerm m c a b o) ((n + 1) * 256) 256, show n * 256 + 256 = (n + 1) * 256 by omega]

/-- The gradient of `x`. -/
theorem dx_eq : dxArr m c = Cert.ReferenceIdeal.Gen.k0_pay1 (Cert.ReferenceIdeal.Gen.k0_pay11 (W m c) (G m c)) := by
  funext i
  obtain ⟨a, b, rfl⟩ : ∃ (a : Fin 3072) (b : Fin 1280), i = ix2 a b := ⟨i 0, i 1, eq_ix2 i⟩
  rw [dxArr, Entry.dx_apply, accN_apply m c hN]
  refine Eq.trans ?_ (Cert.ReferenceIdeal.Entry.dx_apply (W m c) (G m c) a b).symm
  rw [show 19 * 256 + 256 = 5120 from rfl, Finset.sum_range]
  refine Finset.sum_congr rfl fun k _ => ?_
  exact dif_pos k.isLt

/-- The scale a block's row has is the reference's. -/
theorem scale_row (t : Fin cfg0.N) (r : Fin 256) (o : Fin 5120) (h : at256 t r = o) :
    k0_pay7 (wb m c t) (ix2 r 0) = Cert.ReferenceIdeal.Gen.k0_pay7 (F := Ideal) (W m c) (ix2 o 0) := by
  rw [Entry.pay7_apply, rowMax_wb, h, (scale_eq _ (hN o)).1]
  exact (Cert.ReferenceIdeal.Entry.pay7_apply (W m c) o).symm

/-- The scales. -/
theorem scales_eq : scales m c = Cert.ReferenceIdeal.Gen.k0_pay3 (Cert.ReferenceIdeal.Gen.k0_pay7 (W m c)) := by
  funext i
  obtain ⟨a, b, rfl⟩ : ∃ (a : Fin 40) (b : Fin 128), i = ix2 a b := ⟨i 0, i 1, eq_ix2 i⟩
  refine Eq.trans ?_ (Cert.ReferenceIdeal.Entry.scales_apply _ a b).symm
  by_cases h : a.val % 2 = 0
  · rw [scales_even m c a b h, scale0, Entry.pay12_apply]
    refine scale_row m c hN _ _ _ (Fin.ext ?_)
    show a.val / 2 * 256 + b.val = a.val * 128 + b.val
    omega
  · rw [scales_odd m c a b h, scale1, Entry.pay13_apply]
    refine scale_row m c hN _ _ _ (Fin.ext ?_)
    show a.val / 2 * 256 + (128 + b.val) = a.val * 128 + b.val
    omega

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_normal_row_maxima
public import proofs.«01_k».proof.Proof.Final
public import proofs.«01_k».proof.Proof.SameText
public import proofs.«01_k».proof.Proof.RefRun
public import proofs.«01_k».proof.Proof.Pre
public import proofs.«01_k».proof.Proof.Agree
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_normal_row_maxima.Gen.facts

/-- The kernel's results are the reference's, over the extended reals. -/
theorem algebraic : Cert.algebraic_KernelIdeal_ReferenceIdeal_pre_normal_row_maxima := by
  intro m ρ m' ρ' hpre harg
  have hX : ∀ c : Dev Cert.KernelIdeal.nD, Cert.ReferenceIdeal.Run.X m' c = Cert.KernelIdeal.Run.X m c := fun c => by
    rw [Cert.ReferenceIdeal.Run.X_eq, Cert.KernelIdeal.Run.X_eq, (harg c).1]
  have hW : ∀ c : Dev Cert.KernelIdeal.nD, Cert.ReferenceIdeal.Run.W m' c = Cert.KernelIdeal.Run.W m c := fun c =>
    (Cert.ReferenceIdeal.Gen.V_main_arg1 m' c).trans ((harg c).2.1.trans (Cert.KernelIdeal.Gen.V_main_arg1 m c).symm)
  have hG : ∀ c : Dev Cert.KernelIdeal.nD, Cert.ReferenceIdeal.Run.G m' c = Cert.KernelIdeal.Run.G m c := fun c => by
    rw [Cert.ReferenceIdeal.Run.G_eq, Cert.KernelIdeal.Run.G_eq, (harg c).2.2]
  have hN : ∀ (c : Dev Cert.KernelIdeal.nD) (r : Fin 5120), Cert.Scale.Normal (Cert.Spec.rowMax (Cert.KernelIdeal.Run.W m c) r) := fun c r => by
    rw [show Cert.KernelIdeal.Run.W m c = _ from Cert.KernelIdeal.Gen.V_main_arg1 m c]
    exact Cert.Pre.normal_of_pre _ _ _ (hpre c) r
  refine ⟨fun c => Cert.KernelIdeal.Run.yArr m c, fun c => Cert.KernelIdeal.Run.dxArr m c, fun c => Cert.KernelIdeal.Run.dwArr m c,
    fun c => Cert.KernelIdeal.Run.codesArr m c, fun c => Cert.KernelIdeal.Run.scales m c, ?_, ?_⟩
  · refine (θ_run _ _ _).mono (fun r h c => ?_) (Cert.KernelIdeal.Run.run m ρ)
    obtain ⟨⟨h0, h1, h2, h3, h4⟩, h5⟩ := h c
    exact ⟨h0, h1, h2, h3, h4, h5⟩
  · refine (θ_run _ _ _).mono (fun r h c => ?_) (Cert.ReferenceIdeal.Run.run m' ρ')
    obtain ⟨⟨h0, h1, h2, h3, h4⟩, h5⟩ := h c
    rw [hX c, hW c] at h0
    rw [hW c, hG c] at h1
    rw [hX c, hG c] at h2
    rw [hW c] at h3 h4
    exact ⟨h0.trans (Cert.Agree.y_eq m c (hN c)).symm, h1.trans (Cert.Agree.dx_eq m c (hN c)).symm, h2.trans (Cert.Agree.dw_eq m c).symm,
      h3.trans (Cert.Agree.codes_eq m c (hN c)).symm, h4.trans (Cert.Agree.scales_eq m c (hN c)).symm, h5⟩

theorem claim : Cert.Claim := ⟨Cert.Kernel.Gen.facts, Cert.KernelIdeal.Gen.facts, Cert.ReferenceIdeal.Gen.facts, Cert.Pre_normal_row_maxima.Gen.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
